-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "far" .f32 0x7F61B1E6#32 ⊤
  ∧ IdealRules.named_const.Statement Cert.KernelIdeal.κ "near" .f32 0xFF61B1E6#32 ⊥
  ∧ IdealRules.named_const.Statement Cert.KernelIdeal.κ "mean" .f32 0x3D430C31#32 ((21⁻¹ : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4x3x4096 : Shape := ⟨3, ![4, 3, 4096]⟩
abbrev S4x64x4096 : Shape := ⟨3, ![4, 64, 4096]⟩
abbrev S64x64 : Shape := ⟨2, ![64, 64]⟩
abbrev S64 : Shape := ⟨1, ![64]⟩
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x22 : Shape := ⟨3, ![4, 4096, 22]⟩
abbrev S4x4096x21 : Shape := ⟨3, ![4, 4096, 21]⟩

class Facts : Prop where
  transposes_S4x3x4096_S4x4096x3_0_2_1 : S4x3x4096.Transposes [0, 2, 1] S4x4096x3
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  sliceFits_S4x4096x4096_S4x4096x22 : S4x4096x4096.Slices (fun _ => 0) S4x4096x22
  slices_S4x4096x22_S4x4096x21_0_0_1 : S4x4096x22.Slices ![0, 0, 1] S4x4096x21
  slices_S4x4096x22_S4x4096x21_0_0_0 : S4x4096x22.Slices ![0, 0, 0] S4x4096x21
  reducesTo_S4x4096x21_S_d0_1_2 : S4x4096x21.ReducesTo [0, 1, 2] S_
  bcast_S_S4x3x4096 : S_.BroadcastsInDim S4x3x4096 (![] : Fin 0 → Fin S4x3x4096.rank)
  reducesTo_S4x3x4096_S_d0_1_2 : S4x3x4096.ReducesTo [0, 1, 2] S_
  bcast_S_S4x64x4096 : S_.BroadcastsInDim S4x64x4096 (![] : Fin 0 → Fin S4x64x4096.rank)
  reducesTo_S4x64x4096_S_d0_1_2 : S4x64x4096.ReducesTo [0, 1, 2] S_
  bcast_S_S64x64 : S_.BroadcastsInDim S64x64 (![] : Fin 0 → Fin S64x64.rank)
  reducesTo_S64x64_S_d0_1 : S64x64.ReducesTo [0, 1] S_
  dot_S4x4096x3_S4x4096x3_S4x4096x4096_2_2_1_1_0_0_wf : DotDims.WF S4x4096x3 S4x4096x3 S4x4096x4096 [2] [2] [1] [1] [0] [0]

variable [Facts]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf
def fn_part1 {F : FTy → Type} [FloatOps F] (main_arg1 : FVec F S4x64x4096 .f32) (main_arg4 : FVec F S64x64 .f32) (main_v16 : IVec S_ 1) (main_v17 : FVec F S4x3x4096 .f32) (main_cst_1 : FVec F S_ .f32) : IVec S_ 1 :=
  let main_v18 : FVec F S4x3x4096 .f32 := broadcastInDim S4x3x4096 ![] bcast_S_S4x3x4096 main_cst_1
  let main_v19 : IVec S4x3x4096 1 := cmpf .olt main_v17 main_v18
  let main_c_2 : IVec S_ 1 := constantI S_ 1 1#1
  let main_v20 : IVec S_ 1 := (fun x v => Host.reduce IntOp.andi x v reducesTo_S4x3x4096_S_d0_1_2 h_S_) main_v19 main_c_2
  let main_v21 : IVec S_ 1 := andi main_v16 main_v20
  let main_v22 : FVec F S4x64x4096 .f32 := Host.absf main_arg1
  let main_cst_3 : FVec F S_ .f32 := constant S_ .f32 0x7F800000#32
  let main_v23 : FVec F S4x64x4096 .f32 := broadcastInDim S4x64x4096 ![] bcast_S_S4x64x4096 main_cst_3
  let main_v24 : IVec S4x64x4096 1 := cmpf .olt main_v22 main_v23
  let main_c_4 : IVec S_ 1 := constantI S_ 1 1#1
  let main_v25 : IVec S_ 1 := (fun x v => Host.reduce IntOp.andi x v reducesTo_S4x64x4096_S_d0_1_2 h_S_) main_v24 main_c_4
  let main_v26 : IVec S_ 1 := andi main_v21 main_v25
  let main_v27 : FVec F S64x64 .f32 := Host.absf main_arg4
  let main_cst_5 : FVec F S_ .f32 := constant S_ .f32 0x7F800000#32
  let main_v28 : FVec F S64x64 .f32 := broadcastInDim S64x64 ![] bcast_S_S64x64 main_cst_5
  let main_v29 : IVec S64x64 1 := cmpf .olt main_v27 main_v28
  let main_c_6 : IVec S_ 1 := constantI S_ 1 1#1
  let main_v30 : IVec S_ 1 := (fun x v => Host.reduce IntOp.andi x v reducesTo_S64x64_S_d0_1 h_S_) main_v29 main_c_6
  let main_v31 : IVec S_ 1 := andi main_v26 main_v30
  main_v31

def fn {F : FTy → Type} [FloatOps F] (main_arg0 : FVec F S4x3x4096 .f32) (main_arg1 : FVec F S4x64x4096 .f32) (main_arg2 : FVec F S64x64 .f32) (main_arg3 : FVec F S64 .f32) (main_arg4 : FVec F S64x64 .f32) (main_arg5 : FVec F S64 .f32) : IVec S_ 1 :=
  let main_v0 : FVec F S4x4096x3 .f32 := (transpose S4x4096x3 [0, 2, 1] · transposes_S4x3x4096_S4x4096x3_0_2_1) main_arg0
  let main_v1 : FVec F S4x4096x3 .f32 := mulf main_v0 main_v0
  let main_cst : FVec F S_ .f32 := constant S_ .f32 0x00000000#32
  let main_v2 : FVec F S4x4096 .f32 := (fun x v => Host.reduceAdd x v reducesTo_S4x4096x3_S4x4096_d2 h_S_) main_v1 main_cst
  let main_v3 : FVec F S4x4096x1 .f32 := broadcastInDim S4x4096x1 ![0, 1] bcast_S4x4096_S4x4096x1_0_1 main_v2
  let main_v4 : FVec F S4x1x4096 .f32 := broadcastInDim S4x1x4096 ![0, 2] bcast_S4x4096_S4x1x4096_0_2 main_v2
  let main_v5 : FVec F S4x4096x4096 .f32 := broadcastInDim S4x4096x4096 ![0, 1, 2] bcast_S4x4096x1_S4x4096x4096_0_1_2 main_v3
  let main_v6 : FVec F S4x4096x4096 .f32 := broadcastInDim S4x4096x4096 ![0, 1, 2] bcast_S4x1x4096_S4x4096x4096_0_1_2 main_v4
  let main_v7 : FVec F S4x4096x4096 .f32 := addf main_v5 main_v6
  let main_v8 : FVec F S4x4096x4096 .f32 := (fun l r => Host.dotGeneral dot_S4x4096x3_S4x4096x3_S4x4096x4096_2_2_1_1_0_0 none l r) main_v0 main_v0
  let main_cst_0 : FVec F S_ .f32 := constant S_ .f32 0x40000000#32
  let main_v9 : FVec F S4x4096x4096 .f32 := broadcastInDim S4x4096x4096 ![] bcast_S_S4x4096x4096 main_cst_0
  let main_v10 : FVec F S4x4096x4096 .f32 := mulf main_v9 main_v8
  let main_v11 : FVec F S4x4096x4096 .f32 := subf main_v7 main_v10
  let main_v12 : FVec F S4x4096x4096 .f32 := Host.negf main_v11
  let main_values : FVec F S4x4096x22 .f32 := (fun x => (Host.topK S4x4096x22 2 (FloatOps.cmpfTotal .gt) x sliceFits_S4x4096x4096_S4x4096x22).1) main_v12
  let main_indices : IVec S4x4096x22 32 := (fun x => (Host.topK S4x4096x22 2 (FloatOps.cmpfTotal .gt) x sliceFits_S4x4096x4096_S4x4096x22).2) main_v12
  let main_v13 : FVec F S4x4096x21 .f32 := (extractStridedSlice S4x4096x21 ![0, 0, 1] · slices_S4x4096x22_S4x4096x21_0_0_1) main_values
  let main_v14 : FVec F S4x4096x21 .f32 := (extractStridedSlice S4x4096x21 ![0, 0, 0] · slices_S4x4096x22_S4x4096x21_0_0_0) main_values
  let main_v15 : IVec S4x4096x21 1 := cmpf .olt main_v13 main_v14
  let main_c : IVec S_ 1 := constantI S_ 1 1#1
  let main_v16 : IVec S_ 1 := (fun x v => Host.reduce IntOp.andi x v reducesTo_S4x4096x21_S_d0_1_2 h_S_) main_v15 main_c
  let main_v17 : FVec F S4x3x4096 .f32 := Host.absf main_arg0
  let main_cst_1 : FVec F S_ .f32 := constant S_ .f32 0x7F800000#32
  fn_part1 (F := F) main_arg1 main_arg4 main_v16 main_v17 main_cst_1
-- ==== Kernel.lean ====
abbrev S4x3x4096 : Shape := ⟨3, ![4, 3, 4096]⟩
abbrev S4x64x4096 : Shape := ⟨3, ![4, 64, 4096]⟩
abbrev S64x64 : Shape := ⟨2, ![64, 64]⟩
abbrev S64 : Shape := ⟨1, ![64]⟩
abbrev S4x4096x3 : Shape := ⟨3, ![4, 4096, 3]⟩
abbrev S4x4096x64 : Shape := ⟨3, ![4, 4096, 64]⟩
abbrev S1x64 : Shape := ⟨2, ![1, 64]⟩
abbrev S1x2048x3 : Shape := ⟨3, ![1, 2048, 3]⟩
abbrev S1x3x4096 : Shape := ⟨3, ![1, 3, 4096]⟩
abbrev S1x4096x64 : Shape := ⟨3, ![1, 4096, 64]⟩
abbrev S1x2048x64 : Shape := ⟨3, ![1, 2048, 64]⟩
abbrev S2048x4096 : Shape := ⟨2, ![2048, 4096]⟩
abbrev S2048x640 : Shape := ⟨2, ![2048, 640]⟩
abbrev S2048x3 : Shape := ⟨2, ![2048, 3]⟩
abbrev S3x4096 : Shape := ⟨2, ![3, 4096]⟩
abbrev S4096 : Shape := ⟨1, ![4096]⟩
abbrev S1x4096 : Shape := ⟨2, ![1, 4096]⟩
abbrev S2048 : Shape := ⟨1, ![2048]⟩
abbrev S2048x1 : Shape := ⟨2, ![2048, 1]⟩
abbrev S64x128 : Shape := ⟨2, ![64, 128]⟩
abbrev S2048x128 : Shape := ⟨2, ![2048, 128]⟩
abbrev S1x2048x128 : Shape := ⟨3, ![1, 2048, 128]⟩
abbrev S1 : Shape := ⟨1, ![1]⟩
abbrev S1x1x1 : Shape := ⟨3, ![1, 1, 1]⟩
abbrev S4096x64 : Shape := ⟨2, ![4096, 64]⟩
abbrev S2048x64 : Shape := ⟨2, ![2048, 64]⟩

abbrev nBuf : Space → Nat
  | .hbm => 12
  | .vmem => 14
  | .smem => 0
  | _ => 0

abbrev bufTy : (tb : Table) → Fin (tcTables nBuf tb) → BufTy
  | .hbm, ⟨0, _⟩ => ⟨S4x3x4096, .f32⟩
  | .hbm, ⟨1, _⟩ => ⟨S4x64x4096, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S4x4096x3, .f32⟩
  | .hbm, ⟨7, _⟩ => ⟨S4x4096x64, .f32⟩
  | .hbm, ⟨8, _⟩ => ⟨S1x64, .f32⟩
  | .hbm, ⟨9, _⟩ => ⟨S1x64, .f32⟩
  | .hbm, ⟨10, _⟩ => ⟨S4x4096x64, .f32⟩
  | .hbm, ⟨11, _⟩ => ⟨S4x64x4096, .f32⟩
  | .local _ .vmem, ⟨0, _⟩ => ⟨S1x2048x3, .f32⟩
  | .local _ .vmem, ⟨1, _⟩ => ⟨S1x2048x3, .f32⟩
  | .local _ .vmem, ⟨2, _⟩ => ⟨S1x3x4096, .f32⟩
  | .local _ .vmem, ⟨3, _⟩ => ⟨S1x3x4096, .f32⟩
  | .local _ .vmem, ⟨4, _⟩ => ⟨S1x4096x64, .f32⟩
  | .local _ .vmem, ⟨5, _⟩ => ⟨S1x4096x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S1x2048x64, .f32⟩
  | .local _ .vmem, ⟨11, _⟩ => ⟨S1x2048x64, .f32⟩
  | .local _ .vmem, ⟨12, _⟩ => ⟨S2048x4096, .f32⟩
  | .local _ .vmem, ⟨13, _⟩ => ⟨S2048x640, .f32⟩
  | _, _ => ⟨S4x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 2], ![false, false]⟩

def k0_off1 (c0_i32 : BitVec 32) : Fin 2 → Nat :=
  let c64_i32 : BitVec 32 := 64#32
  let v20 : BitVec 32 := Scalar.muli c0_i32 c64_i32
  let v26 : Index := Scalar.indexCast v20
  let c0_15 : Index := 0#32
  ![v26.toNat, 0]
def k0_off2 (c0_i32 : BitVec 32) : Fin 2 → Nat :=
  let c64_i32 : BitVec 32 := 64#32
  let v20 : BitVec 32 := Scalar.muli c0_i32 c64_i32
  let v37 : Index := Scalar.indexCast v20
  let c128 : Index := 128#32
  ![v37.toNat, 128]
def k0_off3 (c0_i32 : BitVec 32) : Fin 2 → Nat :=
  let c64_i32 : BitVec 32 := 64#32
  let v20 : BitVec 32 := Scalar.muli c0_i32 c64_i32
  let v48 : Index := Scalar.indexCast v20
  let c256 : Index := 256#32
  ![v48.toNat, 256]
def k0_off4 (c0_i32 : BitVec 32) : Fin 2 → Nat :=
  let c64_i32 : BitVec 32 := 64#32
  let v20 : BitVec 32 := Scalar.muli c0_i32 c64_i32
  let v59 : Index := Scalar.indexCast v20
  let c384 : Index := 384#32
  ![v59.toNat, 384]
def k0_off5 (c0_i32 : BitVec 32) : Fin 2 → Nat :=
  let c64_i32 : BitVec 32 := 64#32
  let v20 : BitVec 32 := Scalar.muli c0_i32 c64_i32
  let v70 : Index := Scalar.indexCast v20
  let c512 : Index := 512#32
  ![v70.toNat, 512]
def k0_off6 (c0_i32 : BitVec 32) : Fin 2 → Nat :=
  let c64_i32 : BitVec 32 := 64#32
  let v20 : BitVec 32 := Scalar.muli c0_i32 c64_i32
  let v81 : Index := Scalar.indexCast v20
  let c640 : Index := 640#32
  ![v81.toNat, 640]
def k0_off7 (c0_i32 : BitVec 32) : Fin 2 → Nat :=
  let c64_i32 : BitVec 32 := 64#32
  let v20 : BitVec 32 := Scalar.muli c0_i32 c64_i32
  let v92 : Index := Scalar.indexCast v20
  let c768 : Index := 768#32
  ![v92.toNat, 768]
def k0_off8 (c0_i32 : BitVec 32) : Fin 2 → Nat :=
  let c64_i32 : BitVec 32 := 64#32
  let v20 : BitVec 32 := Scalar.muli c0_i32 c64_i32
  let v103 : Index := Scalar.indexCast v20
  let c896 : Index := 896#32
  ![v103.toNat, 896]
def k0_off9 (c0_i32 : BitVec 32) : Fin 2 → Nat :=
  let c64_i32 : BitVec 32 := 64#32
  let v20 : BitVec 32 := Scalar.muli c0_i32 c64_i32
  let v114 : Index := Scalar.indexCast v20
  let c1024 : Index := 1024#32
  ![v114.toNat, 1024]
def k0_off10 (c0_i32 : BitVec 32) : Fin 2 → Nat :=
  let c64_i32 : BitVec 32 := 64#32
  let v20 : BitVec 32 := Scalar.muli c0_i32 c64_i32
  let v125 : Index := Scalar.indexCast v20
  let c1152 : Index := 1152#32
  ![v125.toNat, 1152]
def k0_off11 (c0_i32 : BitVec 32) : Fin 2 → Nat :=
  let c64_i32 : BitVec 32 := 64#32
  let v20 : BitVec 32 := Scalar.muli c0_i32 c64_i32
  let v136 : Index := Scalar.indexCast v20
  let c1280 : Index := 1280#32
  ![v136.toNat, 1280]
def k0_off12 (c0_i32 : BitVec 32) : Fin 2 → Nat :=
  let c64_i32 : BitVec 32 := 64#32
  let v20 : BitVec 32 := Scalar.muli c0_i32 c64_i32
  let v147 : Index := Scalar.indexCast v20
  let c1408 : Index := 1408#32
  ![v147.toNat, 1408]
def k0_off13 (c0_i32 : BitVec 32) : Fin 2 → Nat :=
  let c64_i32 : BitVec 32 := 64#32
  let v20 : BitVec 32 := Scalar.muli c0_i32 c64_i32
  let v158 : Index := Scalar.indexCast v20
  let c1536 : Index := 1536#32
  ![v158.toNat, 1536]
def k0_off14 (c0_i32 : BitVec 32) : Fin 2 → Nat :=
  let c64_i32 : BitVec 32 := 64#32
  let v20 : BitVec 32 := Scalar.muli c0_i32 c64_i32
  let v169 : Index := Scalar.indexCast v20
  let c1664 : Index := 1664#32
  ![v169.toNat, 1664]
def k0_off15 (c0_i32 : BitVec 32) : Fin 2 → Nat :=
  let c64_i32 : BitVec 32 := 64#32
  let v20 : BitVec 32 := Scalar.muli c0_i32 c64_i32
  let v180 : Index := Scalar.indexCast v20
  let c1792 : Index := 1792#32
  ![v180.toNat, 1792]
def k0_off16 (c0_i32 : BitVec 32) : Fin 2 → Nat :=
  let c64_i32 : BitVec 32 := 64#32
  let v20 : BitVec 32 := Scalar.muli c0_i32 c64_i32
  let v191 : Index := Scalar.indexCast v20
  let c1920 : Index := 1920#32
  ![v191.toNat, 1920]
def k0_off17 (c0_i32 : BitVec 32) : Fin 2 → Nat :=
  let c64_i32 : BitVec 32 := 64#32
  let v20 : BitVec 32 := Scalar.muli c0_i32 c64_i32
  let v202 : Index := Scalar.indexCast v20
  let c2048 : Index := 2048#32
  ![v202.toNat, 2048]
def k0_off18 (c0_i32 : BitVec 32) : Fin 2 → Nat :=
  let c64_i32 : BitVec 32 := 64#32
  let v20 : BitVec 32 := Scalar.muli c0_i32 c64_i32
  let v213 : Index := Scalar.indexCast v20
  let c2176 : Index := 2176#32
  ![v213.toNat, 2176]
def k0_off19 (c0_i32 : BitVec 32) : Fin 2 → Nat :=
  let c64_i32 : BitVec 32 := 64#32
  let v20 : BitVec 32 := Scalar.muli c0_i32 c64_i32
  let v224 : Index := Scalar.indexCast v20
  let c2304 : Index := 2304#32
  ![v224.toNat, 2304]
def k0_off20 (c0_i32 : BitVec 32) : Fin 2 → Nat :=
  let c64_i32 : BitVec 32 := 64#32
  let v20 : BitVec 32 := Scalar.muli c0_i32 c64_i32
  let v235 : Index := Scalar.indexCast v20
  let c2432 : Index := 2432#32
  ![v235.toNat, 2432]
def k0_off21 (c0_i32 : BitVec 32) : Fin 2 → Nat :=
  let c64_i32 : BitVec 32 := 64#32
  let v20 : BitVec 32 := Scalar.muli c0_i32 c64_i32
  let v246 : Index := Scalar.indexCast v20
  let c2560 : Index := 2560#32
  ![v246.toNat, 2560]
def k0_off22 (c0_i32 : BitVec 32) : Fin 2 → Nat :=
  let c64_i32 : BitVec 32 := 64#32
  let v20 : BitVec 32 := Scalar.muli c0_i32 c64_i32
  let v257 : Index := Scalar.indexCast v20
  let c2688 : Index := 2688#32
  ![v257.toNat, 2688]
def k0_off23 (c0_i32 : BitVec 32) : Fin 2 → Nat :=
  let c64_i32 : BitVec 32 := 64#32
  let v20 : BitVec 32 := Scalar.muli c0_i32 c64_i32
  let v268 : Index := Scalar.indexCast v20
  let c2816 : Index := 2816#32
  ![v268.toNat, 2816]
def k0_off24 (c0_i32 : BitVec 32) : Fin 2 → Nat :=
  let c64_i32 : BitVec 32 := 64#32
  let v20 : BitVec 32 := Scalar.muli c0_i32 c64_i32
  let v279 : Index := Scalar.indexCast v20
  let c2944 : Index := 2944#32
  ![v279.toNat, 2944]
def k0_off25 (c0_i32 : BitVec 32) : Fin 2 → Nat :=
  let c64_i32 : BitVec 32 := 64#32
  let v20 : BitVec 32 := Scalar.muli c0_i32 c64_i32
  let v290 : Index := Scalar.indexCast v20
  let c3072 : Index := 3072#32
  ![v290.toNat, 3072]
def k0_off26 (c0_i32 : BitVec 32) : Fin 2 → Nat :=
  let c64_i32 : BitVec 32 := 64#32
  let v20 : BitVec 32 := Scalar.muli c0_i32 c64_i32
  let v301 : Index := Scalar.indexCast v20
  let c3200 : Index := 3200#32
  ![v301.toNat, 3200]
def k0_off27 (c0_i32 : BitVec 32) : Fin 2 → Nat :=
  let c64_i32 : BitVec 32 := 64#32
  let v20 : BitVec 32 := Scalar.muli c0_i32 c64_i32
  let v312 : Index := Scalar.indexCast v20
  let c3328 : Index := 3328#32
  ![v312.toNat, 3328]
def k0_off28 (c0_i32 : BitVec 32) : Fin 2 → Nat :=
  let c64_i32 : BitVec 32 := 64#32
  let v20 : BitVec 32 := Scalar.muli c0_i32 c64_i32
  let v323 : Index := Scalar.indexCast v20
  let c3456 : Index := 3456#32
  ![v323.toNat, 3456]
def k0_off29 (c0_i32 : BitVec 32) : Fin 2 → Nat :=
  let c64_i32 : BitVec 32 := 64#32
  let v20 : BitVec 32 := Scalar.muli c0_i32 c64_i32
  let v334 : Index := Scalar.indexCast v20
  let c3584 : Index := 3584#32
  ![v334.toNat, 3584]
def k0_off30 (c0_i32 : BitVec 32) : Fin 2 → Nat :=
  let c64_i32 : BitVec 32 := 64#32
  let v20 : BitVec 32 := Scalar.muli c0_i32 c64_i32
  let v345 : Index := Scalar.indexCast v20
  let c3712 : Index := 3712#32
  ![v345.toNat, 3712]
def k0_off31 (c0_i32 : BitVec 32) : Fin 2 → Nat :=
  let c64_i32 : BitVec 32 := 64#32
  let v20 : BitVec 32 := Scalar.muli c0_i32 c64_i32
  let v356 : Index := Scalar.indexCast v20
  let c3840 : Index := 3840#32
  ![v356.toNat, 3840]
def k0_off32 (c0_i32 : BitVec 32) : Fin 2 → Nat :=
  let c64_i32 : BitVec 32 := 64#32
  let v20 : BitVec 32 := Scalar.muli c0_i32 c64_i32
  let v367 : Index := Scalar.indexCast v20
  let c3968 : Index := 3968#32
  ![v367.toNat, 3968]
def k0_off33 (c0_i32 : BitVec 32) : Fin 2 → Nat :=
  let c64_i32 : BitVec 32 := 64#32
  let v20 : BitVec 32 := Scalar.muli c0_i32 c64_i32
  let v378 : Index := Scalar.indexCast v20
  let c0_16 : Index := 0#32
  ![v378.toNat, 0]
def k0_off34 (c0_i32 : BitVec 32) : Fin 2 → Nat :=
  let c64_i32 : BitVec 32 := 64#32
  let v20 : BitVec 32 := Scalar.muli c0_i32 c64_i32
  let v382 : Index := Scalar.indexCast v20
  let c128_17 : Index := 128#32
  ![v382.toNat, 128]
def k0_off35 (c0_i32 : BitVec 32) : Fin 2 → Nat :=
  let c64_i32 : BitVec 32 := 64#32
  let v20 : BitVec 32 := Scalar.muli c0_i32 c64_i32
  let v386 : Index := Scalar.indexCast v20
  let c256_18 : Index := 256#32
  ![v386.toNat, 256]
def k0_off36 (c0_i32 : BitVec 32) : Fin 2 → Nat :=
  let c64_i32 : BitVec 32 := 64#32
  let v20 : BitVec 32 := Scalar.muli c0_i32 c64_i32
  let v390 : Index := Scalar.indexCast v20
  let c384_19 : Index := 384#32
  ![v390.toNat, 384]
def k0_off37 (c0_i32 : BitVec 32) : Fin 2 → Nat :=
  let c64_i32 : BitVec 32 := 64#32
  let v20 : BitVec 32 := Scalar.muli c0_i32 c64_i32
  let v394 : Index := Scalar.indexCast v20
  let c512_20 : Index := 512#32
  ![v394.toNat, 512]
@[reducible] def k0_t1_loop : Scf.Loop 32 :=
  let c0_i32_1355 : BitVec 32 := 0#32
  let c21_i32_1356 : BitVec 32 := 21#32
  let v12117 : BitVec 32 := Scalar.addi c0_i32_1355 c21_i32_1356
  let c1_i32_1357 : BitVec 32 := 1#32
  ⟨c0_i32_1355, v12117, c1_i32_1357⟩
@[reducible] def k0_t2_loop : Scf.Loop 32 :=
  let c0_i32_1393 : BitVec 32 := 0#32
  let c21_i32_1394 : BitVec 32 := 21#32
  let v12177 : BitVec 32 := Scalar.addi c0_i32_1393 c21_i32_1394
  let c1_i32_1395 : BitVec 32 := 1#32
  ⟨c0_i32_1393, v12177, c1_i32_1395⟩
def k0_off38 (i : grid0.Coords) : Fin 3 → Nat :=
  let c0_1373 : Index := 0#32
  let arg1 : BitVec 32 := BitVec.ofNat 32 (i 1).val
  let c2048_i32 : BitVec 32 := 2048#32
  let v12146 : BitVec 32 := Scalar.muli arg1 c2048_i32
  let v12147 : Index := Scalar.indexCast v12146
  let c0_1374 : Index := 0#32
  ![0, v12147.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "far" => some ⊤
  | "mean" => some ((21⁻¹ : ℝ) : EReal)
  | "near" => some ⊥
  | _ => none
-- ==== ReferenceIdeal.lean ====
abbrev S4x3x4096 : Shape := ⟨3, ![4, 3, 4096]⟩
abbrev S4x64x4096 : Shape := ⟨3, ![4, 64, 4096]⟩
abbrev S64x64 : Shape := ⟨2, ![64, 64]⟩
abbrev S64 : Shape := ⟨1, ![64]⟩
abbrev S4x4096x64 : Shape := ⟨3, ![4, 4096, 64]⟩
abbrev S_ : Shape := ⟨0, ![]⟩
abbrev S4x4096x3 : Shape := ⟨3, ![4, 4096, 3]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x21 : Shape := ⟨3, ![4, 4096, 21]⟩
abbrev S4x4096x20 : Shape := ⟨3, ![4, 4096, 20]⟩
abbrev S4x4096x20x1 : Shape := ⟨4, ![4, 4096, 20, 1]⟩
abbrev S4x4096x20x64 : Shape := ⟨4, ![4, 4096, 20, 64]⟩
abbrev S4x64x1x4096 : Shape := ⟨4, ![4, 64, 1, 4096]⟩
abbrev S4x1x4096x64 : Shape := ⟨4, ![4, 1, 4096, 64]⟩
abbrev S1x64x1x1 : Shape := ⟨4, ![1, 64, 1, 1]⟩
abbrev S4x64x20x4096 : Shape := ⟨4, ![4, 64, 20, 4096]⟩
abbrev S4x20x4096x64 : Shape := ⟨4, ![4, 20, 4096, 64]⟩
abbrev S4x64x21x4096 : Shape := ⟨4, ![4, 64, 21, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4x3x4096, .f32⟩
  | .hbm, ⟨1, _⟩ => ⟨S4x64x4096, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S4x4096x64, .f32⟩
  | .hbm, ⟨7, _⟩ => ⟨S_, .f32⟩
  | .hbm, ⟨8, _⟩ => ⟨S_, .f32⟩
  | .hbm, ⟨9, _⟩ => ⟨S4x4096x64, .f32⟩
  | .hbm, ⟨10, _⟩ => ⟨S4x4096x64, .i1⟩
  | .hbm, ⟨11, _⟩ => ⟨S_, .f32⟩
  | .hbm, ⟨12, _⟩ => ⟨S4x4096x64, .f32⟩
  | .hbm, ⟨13, _⟩ => ⟨S4x4096x64, .f32⟩
  | .hbm, ⟨14, _⟩ => ⟨S4x4096x64, .f32⟩
  | .hbm, ⟨15, _⟩ => ⟨S4x4096x3, .f32⟩
  | .hbm, ⟨16, _⟩ => ⟨S4x4096x3, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S4x1x4096, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x21, .f32⟩
  | .hbm, ⟨31, _⟩ => ⟨S4x4096x21, .i32⟩
  | .hbm, ⟨32, _⟩ => ⟨S4x4096x20, .i32⟩
  | .hbm, ⟨33, _⟩ => ⟨S_, .i32⟩
  | .hbm, ⟨34, _⟩ => ⟨S4x4096x20, .i32⟩
  | .hbm, ⟨35, _⟩ => ⟨S4x4096x20, .i1⟩
  | .hbm, ⟨36, _⟩ => ⟨S_, .i32⟩
  | .hbm, ⟨37, _⟩ => ⟨S4x4096x20, .i32⟩
  | .hbm, ⟨38, _⟩ => ⟨S4x4096x20, .i32⟩
  | .hbm, ⟨39, _⟩ => ⟨S4x4096x20, .i32⟩
  | .hbm, ⟨40, _⟩ => ⟨S4x4096x20x1, .i32⟩
  | .hbm, ⟨41, _⟩ => ⟨S4x4096x20x64, .f32⟩
  | .hbm, ⟨42, _⟩ => ⟨S4x64x4096, .f32⟩
  | .hbm, ⟨43, _⟩ => ⟨S4x64x1x4096, .f32⟩
  | .hbm, ⟨44, _⟩ => ⟨S4x1x4096x64, .f32⟩
  | .hbm, ⟨45, _⟩ => ⟨S4x64x1x4096, .f32⟩
  | .hbm, ⟨46, _⟩ => ⟨S1x64x1x1, .f32⟩
  | .hbm, ⟨47, _⟩ => ⟨S4x64x1x4096, .f32⟩
  | .hbm, ⟨48, _⟩ => ⟨S4x64x1x4096, .f32⟩
  | .hbm, ⟨49, _⟩ => ⟨S4x64x20x4096, .f32⟩
  | .hbm, ⟨50, _⟩ => ⟨S4x20x4096x64, .f32⟩
  | .hbm, ⟨51, _⟩ => ⟨S4x64x20x4096, .f32⟩
  | .hbm, ⟨52, _⟩ => ⟨S1x64x1x1, .f32⟩
  | .hbm, ⟨53, _⟩ => ⟨S4x64x20x4096, .f32⟩
  | .hbm, ⟨54, _⟩ => ⟨S4x64x20x4096, .f32⟩
  | .hbm, ⟨55, _⟩ => ⟨S4x64x21x4096, .f32⟩
  | .hbm, ⟨56, _⟩ => ⟨S_, .f32⟩
  | .hbm, ⟨57, _⟩ => ⟨S4x64x4096, .f32⟩
  | .hbm, ⟨58, _⟩ => ⟨S_, .f32⟩
  | .hbm, ⟨59, _⟩ => ⟨S4x64x4096, .f32⟩
  | .hbm, ⟨60, _⟩ => ⟨S4x64x4096, .f32⟩
  | .hbm, ⟨61, _⟩ => ⟨S4x64x4096, .f32⟩
  | _, _ => ⟨S4x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_values : Ref sig .tc := ⟨.hbm, 30, rfl⟩
abbrev main_indices : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Proof.Body.lean ====
/- The kernel's body, written by its structure.

   The printed body is one long straight line: the distances into one scratch array, then thirty-two
   copies of the same trip (each takes sixty-four rows, runs the thirty-two chunks of them through a
   five-level insertion and stores the five levels into the other scratch array), then the two counted
   loops and the arithmetic that makes the block. Here each of these is one definition, and the printed
   body is proved to be their sequence. -/
module

public import proofs.«01_k».proof.KernelIdeal
public import Idealize.ShloMosaic.Lib.Tactic

@[expose] public section

set_option maxRecDepth 16384
set_option synthInstance.maxSize 4096

noncomputable section

namespace Cert.KernelIdeal.Body

open Idealize.ShloMosaic Idealize.SL.Sem
open Facts₀ Facts

variable {F : FTy → Type} [FloatOps F] [Named F] [Facts]

/-- The five levels of the insertion, smallest first. -/
structure Lev (F : FTy → Type) where
  l0 : FVec F S64x128 .f32
  l1 : FVec F S64x128 .f32
  l2 : FVec F S64x128 .f32
  l3 : FVec F S64x128 .f32
  l4 : FVec F S64x128 .f32

/-- One tile inserted into the levels: each level keeps the smaller and hands the larger on. -/
def Lev.ins (v : Lev F) (y : FVec F S64x128 .f32) : Lev F :=
  ⟨minimumf v.l0 y,
   minimumf v.l1 (maximumf v.l0 y),
   minimumf v.l2 (maximumf v.l1 (maximumf v.l0 y)),
   minimumf v.l3 (maximumf v.l2 (maximumf v.l1 (maximumf v.l0 y))),
   minimumf v.l4 (maximumf v.l3 (maximumf v.l2 (maximumf v.l1 (maximumf v.l0 y))))⟩

/-- The tile every level starts at. -/
def far : FVec F S64x128 .f32 := broadcast S64x128 (Named.named κ "far" 0x7F61B1E6#32)

/-- The levels at the start of a trip. -/
def Lev.start : Lev F := ⟨far, far, far, far, far⟩

/-- Where chunk `c` of the rows of trip `q` starts in the array of distances. -/
def offD (c q : Nat) : Fin 2 → Nat :=
  ![(Scalar.indexCast (Scalar.muli (BitVec.ofNat 32 q) 64#32)).toNat, 128 * c]

/-- Where level `j` of trip `q` starts in the array of levels. -/
def offP (j q : Nat) : Fin 2 → Nat :=
  ![(Scalar.indexCast (Scalar.muli (BitVec.ofNat 32 q) 64#32)).toNat, 128 * j]

theorem row_eq (q : Nat) (hq : q < 32) :
    (Scalar.indexCast (Scalar.muli (BitVec.ofNat 32 q) 64#32)).toNat = 64 * q := by
  show (BitVec.ofNat 32 q * 64#32).toNat = 64 * q
  rw [BitVec.toNat_mul, BitVec.toNat_ofNat]
  show q % 2 ^ 32 * 64 % 2 ^ 32 = 64 * q
  omega

theorem offD_inb (c q : Nat) (hc : c < 32) (hq : q < 32) :
    ∀ a, offD c q a + S64x128.size a ≤ S2048x4096.size a := by
  intro a
  match a with
  | ⟨0, _⟩ => show (Scalar.indexCast _).toNat + 64 ≤ 2048; rw [row_eq q hq]; omega
  | ⟨1, _⟩ => show 128 * c + 128 ≤ 4096; omega

theorem offP_inb (j q : Nat) (hj : j < 5) (hq : q < 32) :
    ∀ a, offP j q a + S64x128.size a ≤ S2048x640.size a := by
  intro a
  match a with
  | ⟨0, _⟩ => show (Scalar.indexCast _).toNat + 64 ≤ 2048; rw [row_eq q hq]; omega
  | ⟨1, _⟩ => show 128 * j + 128 ≤ 640; omega

variable (i : grid0.Coords)
  (arg2 : Memref sig .tc .vmem S1x2048x3 .f32) (harg2 : arg2.IsWhole)
  (arg3 : Memref sig .tc .vmem S1x3x4096 .f32) (harg3 : arg3.IsWhole)
  (arg4 : Memref sig .tc .vmem S1x4096x64 .f32) (harg4 : arg4.IsWhole)
  (arg5 : Memref sig .tc .vmem S64x64 .f32) (harg5 : arg5.IsWhole)
  (arg6 : Memref sig .tc .vmem S64x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x2048x64 .f32) (harg9 : arg9.IsWhole)
  (arg10 : Memref sig .tc .vmem S2048x4096 .f32) (harg10 : arg10.IsWhole)
  (arg11 : Memref sig .tc .vmem S2048x640 .f32) (harg11 : arg11.IsWhole)

/-- The squared distances of a block of queries to all the points. -/
def dist (v0 : FVec F S1x2048x3 .f32) (v2 : FVec F S1x3x4096 .f32) : FVec F S2048x4096 .f32 :=
  have v1 : FVec F S2048x3 .f32 := shapeCast S2048x3 v0 shapeCasts_S1x2048x3_S2048x3
  have v3 : FVec F S3x4096 .f32 := shapeCast S3x4096 v2 shapeCasts_S1x3x4096_S3x4096
  subf
    (addf
      (broadcastTo S2048x4096 (shapeCast S2048x1
        (multiReduction .add [1] S2048 (mulf v1 v1) 0x00000000#32 reduces_S2048x3_S2048 (.inl rfl) rfl)
        shapeCasts_S2048_S2048x1) broadcasts_S2048x1_S2048x4096)
      (broadcastTo S2048x4096 (shapeCast S1x4096
        (multiReduction .add [0] S4096 (mulf v3 v3) 0x00000000#32 reduces_S3x4096_S4096 (.inl rfl) rfl)
        shapeCasts_S4096_S1x4096) broadcasts_S1x4096_S2048x4096))
    (mulf (broadcast S2048x4096 (Scalar.ofBits .f32 0x40000000#32))
      (matmul dot_S2048x3_S3x4096_S2048x4096_1_0_0_1_n_n none v1 v3
        (constant S2048x4096 .f32 0x00000000#32)))

/-- The first statements: the distances into their scratch array. -/
def storeDist : Prog (TpuEff nD τ sig (Elt F) Λ₀ .tc) PUnit :=
  (Prog.lift (.load arg2 (Rect.unit (s := S1x2048x3) ![0, 0, 0] S1x2048x3.size inb_S1x2048x3_S1x2048x3_0_0_0).toLoadRect (View.loadsAt_vmem h_S1x2048x3))) >>= fun (v0 : Vec F S1x2048x3 .f32) =>
  (Prog.lift (.load arg3 (Rect.unit (s := S1x3x4096) ![0, 0, 0] S1x3x4096.size inb_S1x3x4096_S1x3x4096_0_0_0).toLoadRect (View.loadsAt_vmem h_S1x3x4096))) >>= fun (v2 : Vec F S1x3x4096 .f32) =>
  (Prog.lift (.load arg10 (Rect.unit (s := S2048x4096) ![0, 0] S2048x4096.size inb_S2048x4096_S2048x4096_0_0).toLoadRect (View.loadsAt_vmem h_S2048x4096))) >>= fun _ =>
  Prog.lift (.store arg10 (Rect.unit (s := S2048x4096) ![0, 0] S2048x4096.size inb_S2048x4096_S2048x4096_0_0)
    (shapeCast S2048x4096 (dist v0 v2) shapeCasts_S2048x4096_S2048x4096) Finset.univ
    (View.stores_vmem_bits_univ h_S2048x4096 rfl) (.inl rfl))

/-- Chunks `c`, …, `c + n - 1` of the rows of trip `q` through the insertion. -/
def chunks (q : Nat) (hq : q < 32) : (c n : Nat) → c + n ≤ 32 → Lev F → Prog (TpuEff nD τ sig (Elt F) Λ₀ .tc) (Lev F)
  | _, 0, _, v => pure v
  | c, n + 1, h, v =>
    (Prog.lift (.load arg10 (Rect.unit (s := S2048x4096) (offD c q) S64x128.size
      (offD_inb c q (by omega) hq)).toLoadRect (View.loadsAt_vmem h_S64x128))) >>= fun (y : Vec F S64x128 .f32) =>
    chunks q hq (c + 1) n (by omega) (v.ins y)

/-- One level stored: its place read, then written. -/
def storeLev (q : Nat) (hq : q < 32) (j : Nat) (hj : j < 5) (v : FVec F S64x128 .f32) : Prog (TpuEff nD τ sig (Elt F) Λ₀ .tc) PUnit :=
  (Prog.lift (.load arg11 (Rect.unit (s := S2048x640) (offP j q) S64x128.size
    (offP_inb j q hj hq)).toLoadRect (View.loadsAt_vmem h_S64x128))) >>= fun _ =>
  Prog.lift (.store arg11 (Rect.unit (s := S2048x640) (offP j q) S64x128.size (offP_inb j q hj hq))
    (shapeCast S64x128 v shapeCasts_S64x128_S64x128) Finset.univ
    (View.stores_vmem_bits_univ h_S64x128 rfl) (.inl rfl))

/-- The five levels stored. -/
def storeLevs (q : Nat) (hq : q < 32) (v : Lev F) : Prog (TpuEff nD τ sig (Elt F) Λ₀ .tc) PUnit :=
  storeLev arg11 q hq 0 (by omega) v.l0 >>= fun _ =>
  storeLev arg11 q hq 1 (by omega) v.l1 >>= fun _ =>
  storeLev arg11 q hq 2 (by omega) v.l2 >>= fun _ =>
  storeLev arg11 q hq 3 (by omega) v.l3 >>= fun _ =>
  storeLev arg11 q hq 4 (by omega) v.l4

/-- One trip: sixty-four rows' chunks inserted, their levels stored. -/
def trip (q : Nat) (hq : q < 32) : Prog (TpuEff nD τ sig (Elt F) Λ₀ .tc) PUnit :=
  chunks arg10 q hq 0 32 (by omega) Lev.start >>= fun v => storeLevs arg11 q hq v

/-- Trips `q`, …, `q + n - 1`. -/
def trips : (q n : Nat) → q + n ≤ 32 → Prog (TpuEff nD τ sig (Elt F) Λ₀ .tc) PUnit
  | _, 0, _ => pure ⟨⟩
  | q, n + 1, h => trip arg10 arg11 q (by omega) >>= fun _ => trips (q + 1) n (by omega)

/-- One step of the selection over the levels: the smallest level above `m`. -/
def nextP (P : FVec F S2048x640 .f32) (m : FVec F S2048x1 .f32) : FVec F S2048x1 .f32 :=
  shapeCast S2048x1
    (multiReduction .minimumf [1] S2048
      (select (cmpf .ogt P (broadcastTo S2048x640 m broadcasts_S2048x1_S2048x640)) P
        (broadcast S2048x640 (Named.named κ "far" 0x7F61B1E6#32)) : FVec F S2048x640 .f32)
      0x7F800000#32 reduces_S2048x640_S2048 (.inl rfl) rfl)
    shapeCasts_S2048_S2048x1

/-- One step of the selection over all the distances. -/
def nextD (D : FVec F S2048x4096 .f32) (m : FVec F S2048x1 .f32) : FVec F S2048x1 .f32 :=
  shapeCast S2048x1
    (multiReduction .minimumf [1] S2048
      (select (cmpf .ogt D (broadcastTo S2048x4096 m broadcasts_S2048x1_S2048x4096)) D
        (broadcast S2048x4096 (Named.named κ "far" 0x7F61B1E6#32)) : FVec F S2048x4096 .f32)
      0x7F800000#32 reduces_S2048x4096_S2048 (.inl rfl) rfl)
    shapeCasts_S2048_S2048x1

/-- What both selections start from. -/
def near : FVec F S2048x1 .f32 := broadcast S2048x1 (Named.named κ "near" 0xFF61B1E6#32)

/-- The first counted loop: twenty-one steps over the levels. -/
def selP : Prog (TpuEff nD τ sig (Elt F) Λ₀ .tc) (FVec F S2048x1 .f32) :=
  Scf.Loop.for k0_t1_loop k0_t1_ok near fun _ m =>
    (Prog.lift (.load arg11 (Rect.unit (s := S2048x640) ![0, 0] S2048x640.size inb_S2048x640_S2048x640_0_0).toLoadRect (View.loadsAt_vmem h_S2048x640))) >>= fun (P : Vec F S2048x640 .f32) =>
    pure (nextP P m)

/-- The second counted loop: twenty-one steps over all the distances. -/
def selD : Prog (TpuEff nD τ sig (Elt F) Λ₀ .tc) (FVec F S2048x1 .f32) :=
  Scf.Loop.for k0_t2_loop k0_t2_ok near fun _ m =>
    (Prog.lift (.load arg10 (Rect.unit (s := S2048x4096) ![0, 0] S2048x4096.size inb_S2048x4096_S2048x4096_0_0).toLoadRect (View.loadsAt_vmem h_S2048x4096))) >>= fun (D : Vec F S2048x4096 .f32) =>
    pure (nextD D m)

/-- The test of the first selection: is some deepest level below the row's threshold? -/
def overflow (q : FVec F S2048x128 .f32) (t : FVec F S2048x1 .f32) : BitVec 1 :=
  Scalar.cmpi .ne
    (Scalar.extui (Scalar.cmpf .ogt
      (extractAt ![0, 0, 0]
        (shapeCast S1x1x1
          (multiReduction .maximumf [1, 2] S1
            (shapeCast S1x2048x128
              (select (cmpf .olt q (broadcastTo S2048x128 t broadcasts_S2048x1_S2048x128))
                (broadcast S2048x128 (Scalar.ofBits .f32 0x3F800000#32))
                (broadcast S2048x128 (Scalar.ofBits .f32 0x00000000#32)) : FVec F S2048x128 .f32)
              shapeCasts_S2048x128_S1x2048x128)
            0xFF800000#32 reduces_S1x2048x128_S1 (.inl rfl) rfl : FVec F S1 .f32)
          shapeCasts_S1_S1x1x1) inpos_S1x1x1_p0_0_0)
      (Scalar.ofBits .f32 0x00000000#32 : F .f32)) : BitVec 32) 0#32

/-- Which points are within the threshold, as zeros and ones. -/
def within (D : FVec F S2048x4096 .f32) (t : FVec F S2048x1 .f32) : FVec F S2048x4096 .f32 :=
  sitofp .f32 (extui 32 (cmpf .ole D (broadcastTo S2048x4096 t broadcasts_S2048x1_S2048x4096)) natLt_1_32)

/-- The block of results from the features, the weights and the selected points. -/
def blockOut (A : FVec F S2048x4096 .f32) (f : FVec F S4096x64 .f32) (v12148 : FVec F S1x2048x64 .f32)
    (w1 w2 : FVec F S64x64 .f32) (b1 b2 : FVec F S1x64 .f32) : FVec F S1x2048x64 .f32 :=
  have g : FVec F S4096x64 .f32 := select (cmpf .ogt f (broadcast S4096x64 (Scalar.ofBits .f32 0x00000000#32))) f
    (mulf (broadcast S4096x64 (Scalar.ofBits .f32 0x3C23D70A#32)) f)
  have agg : FVec F S2048x64 .f32 := matmul dot_S2048x4096_S4096x64_S2048x64_1_0_0_1_n_n none A g
    (constant S2048x64 .f32 0x00000000#32)
  have r : FVec F S2048x64 .f32 := shapeCast S2048x64 v12148 shapeCasts_S1x2048x64_S2048x64
  have h : FVec F S2048x64 .f32 := select (cmpf .ogt r (broadcast S2048x64 (Scalar.ofBits .f32 0x00000000#32))) r
    (mulf (broadcast S2048x64 (Scalar.ofBits .f32 0x3C23D70A#32)) r)
  have p1 : FVec F S2048x64 .f32 := matmul dot_S2048x64_S64x64_S2048x64_1_1_0_0_n_n none h w1
    (constant S2048x64 .f32 0x00000000#32)
  have p2 : FVec F S2048x64 .f32 := matmul dot_S2048x64_S64x64_S2048x64_1_1_0_0_n_n none (subf agg h) w2
    (constant S2048x64 .f32 0x00000000#32)
  have b : FVec F S1x64 .f32 := addf (shapeCast S1x64 b1 shapeCasts_S1x64_S1x64)
    (mulf (broadcast S1x64 (Scalar.ofBits .f32 0x41A00000#32)) (shapeCast S1x64 b2 shapeCasts_S1x64_S1x64))
  shapeCast S1x2048x64
    (addf
      (mulf (addf (addf p1 p2) (broadcastTo S2048x64 b broadcasts_S1x64_S2048x64))
        (broadcast S2048x64 (Named.named κ "mean" 0x3D430C31#32)))
      r)
    shapeCasts_S2048x64_S1x2048x64

/-- With a threshold for each row: the selected points, and all the features. -/
def gather (t : FVec F S2048x1 .f32) :
    Prog (TpuEff nD τ sig (Elt F) Λ₀ .tc) (Σ' (_ : FVec F S2048x4096 .f32), FVec F S4096x64 .f32) :=
  (Prog.lift (.load arg10 (Rect.unit (s := S2048x4096) ![0, 0] S2048x4096.size inb_S2048x4096_S2048x4096_0_0).toLoadRect (View.loadsAt_vmem h_S2048x4096))) >>= fun (D : Vec F S2048x4096 .f32) =>
  (Prog.lift (.load arg4 (Rect.unit (s := S1x4096x64) ![0, 0, 0] S1x4096x64.size inb_S1x4096x64_S1x4096x64_0_0_0).toLoadRect (View.loadsAt_vmem h_S1x4096x64))) >>= fun (v12138 : Vec F S1x4096x64 .f32) =>
  pure ⟨within D t, shapeCast S4096x64 v12138 shapeCasts_S1x4096x64_S4096x64⟩

/-- The threshold of each row — by the selection over the levels, and by the one over all the distances
    when the levels may have lost something — and what is gathered with it. -/
def choose :
    Prog (TpuEff nD τ sig (Elt F) Λ₀ .tc) (Σ' (_ : FVec F S2048x4096 .f32), FVec F S4096x64 .f32) :=
  selP arg11 >>= fun t =>
  (Prog.lift (.load arg11 (Rect.unit (s := S2048x640) ![0, 512] S2048x128.size inb_S2048x640_S2048x128_0_512).toLoadRect (View.loadsAt_vmem h_S2048x128))) >>= fun (q : Vec F S2048x128 .f32) =>
  if overflow q t = 1#1 then selD arg10 >>= fun s => gather arg4 arg10 s else gather arg4 arg10 t

/-- The last statements: the two products, the block stored. -/
def finish (A : FVec F S2048x4096 .f32) (f : FVec F S4096x64 .f32) : Prog (TpuEff nD τ sig (Elt F) Λ₀ .tc) PUnit :=
  (Prog.lift (.load arg4 (Rect.unit (s := S1x4096x64) (k0_off38 i) S1x2048x64.size (k0_off38_inb i)).toLoadRect (View.loadsAt_vmem h_S1x2048x64))) >>= fun (v12148 : Vec F S1x2048x64 .f32) =>
  (Prog.lift (.load arg5 (Rect.unit (s := S64x64) ![0, 0] S64x64.size inb_S64x64_S64x64_0_0).toLoadRect (View.loadsAt_vmem h_S64x64))) >>= fun (w1 : Vec F S64x64 .f32) =>
  (Prog.lift (.load arg6 (Rect.unit (s := S64x64) ![0, 0] S64x64.size inb_S64x64_S64x64_0_0).toLoadRect (View.loadsAt_vmem h_S64x64))) >>= fun (w2 : Vec F S64x64 .f32) =>
  (Prog.lift (.load arg7 (Rect.unit (s := S1x64) ![0, 0] S1x64.size inb_S1x64_S1x64_0_0).toLoadRect (View.loadsAt_vmem h_S1x64))) >>= fun (b1 : Vec F S1x64 .f32) =>
  (Prog.lift (.load arg8 (Rect.unit (s := S1x64) ![0, 0] S1x64.size inb_S1x64_S1x64_0_0).toLoadRect (View.loadsAt_vmem h_S1x64))) >>= fun (b2 : Vec F S1x64 .f32) =>
  (Prog.lift (.load arg9 (Rect.unit (s := S1x2048x64) ![0, 0, 0] S1x2048x64.size inb_S1x2048x64_S1x2048x64_0_0_0).toLoadRect (View.loadsAt_vmem h_S1x2048x64))) >>= fun _ =>
  Prog.lift (.store arg9 (Rect.unit (s := S1x2048x64) ![0, 0, 0] S1x2048x64.size inb_S1x2048x64_S1x2048x64_0_0_0)
    (blockOut A f v12148 w1 w2 b1 b2) Finset.univ
    (View.stores_vmem_bits_univ h_S1x2048x64 rfl) (.inl rfl))

/-- The whole body. -/
def body : Prog (TpuEff nD τ sig (Elt F) Λ₀ .tc) PUnit :=
  storeDist arg2 arg3 arg10 >>= fun _ =>
  trips arg10 arg11 0 32 (by omega) >>= fun _ =>
  choose arg4 arg10 arg11 >>= fun r =>
  finish i arg4 arg5 arg6 arg7 arg8 arg9 r.1 r.2

/-! ## The same sequence, each part handed what follows it -/

/-- Two operations' sequence: the operation, then what follows it on its result. -/
theorem lift_bind {E : Type → Type} {α β : Type} (e : E α) (k : α → Prog E β) :
    (Prog.lift e >>= k) = Prog.op e k := rfl

/-- `chunks`, then `k`. -/
def chunksK (q : Nat) (hq : q < 32) :
    (c n : Nat) → c + n ≤ 32 → Lev F → (Lev F → Prog (TpuEff nD τ sig (Elt F) Λ₀ .tc) PUnit) →
    Prog (TpuEff nD τ sig (Elt F) Λ₀ .tc) PUnit
  | _, 0, _, v, k => k v
  | c, n + 1, h, v, k =>
    Prog.op (.load arg10 (Rect.unit (s := S2048x4096) (offD c q) S64x128.size
      (offD_inb c q (by omega) hq)).toLoadRect (View.loadsAt_vmem h_S64x128)) fun (y : Vec F S64x128 .f32) =>
    chunksK q hq (c + 1) n (by omega) (v.ins y) k

/-- `storeLev`, then `k`. -/
def storeLevK (q : Nat) (hq : q < 32) (j : Nat) (hj : j < 5) (v : FVec F S64x128 .f32)
    (k : Prog (TpuEff nD τ sig (Elt F) Λ₀ .tc) PUnit) : Prog (TpuEff nD τ sig (Elt F) Λ₀ .tc) PUnit :=
  Prog.op (.load arg11 (Rect.unit (s := S2048x640) (offP j q) S64x128.size
    (offP_inb j q hj hq)).toLoadRect (View.loadsAt_vmem h_S64x128)) fun _ =>
  Prog.op (.store arg11 (Rect.unit (s := S2048x640) (offP j q) S64x128.size (offP_inb j q hj hq))
    (shapeCast S64x128 v shapeCasts_S64x128_S64x128) Finset.univ
    (View.stores_vmem_bits_univ h_S64x128 rfl) (.inl rfl)) fun _ => k

/-- `trips`, then `k`. -/
def tripsK : (q n : Nat) → q + n ≤ 32 → Prog (TpuEff nD τ sig (Elt F) Λ₀ .tc) PUnit →
    Prog (TpuEff nD τ sig (Elt F) Λ₀ .tc) PUnit
  | _, 0, _, k => k
  | q, n + 1, h, k =>
    chunksK arg10 q (by omega) 0 32 (by omega) Lev.start fun v =>
    storeLevK arg11 q (by omega) 0 (by omega) v.l0 <|
    storeLevK arg11 q (by omega) 1 (by omega) v.l1 <|
    storeLevK arg11 q (by omega) 2 (by omega) v.l2 <|
    storeLevK arg11 q (by omega) 3 (by omega) v.l3 <|
    storeLevK arg11 q (by omega) 4 (by omega) v.l4 <|
    tripsK (q + 1) n (by omega) k

/-- `storeDist`, then `k`. -/
def storeDistK (k : Prog (TpuEff nD τ sig (Elt F) Λ₀ .tc) PUnit) : Prog (TpuEff nD τ sig (Elt F) Λ₀ .tc) PUnit :=
  Prog.op (.load arg2 (Rect.unit (s := S1x2048x3) ![0, 0, 0] S1x2048x3.size inb_S1x2048x3_S1x2048x3_0_0_0).toLoadRect (View.loadsAt_vmem h_S1x2048x3)) fun (v0 : Vec F S1x2048x3 .f32) =>
  Prog.op (.load arg3 (Rect.unit (s := S1x3x4096) ![0, 0, 0] S1x3x4096.size inb_S1x3x4096_S1x3x4096_0_0_0).toLoadRect (View.loadsAt_vmem h_S1x3x4096)) fun (v2 : Vec F S1x3x4096 .f32) =>
  Prog.op (.load arg10 (Rect.unit (s := S2048x4096) ![0, 0] S2048x4096.size inb_S2048x4096_S2048x4096_0_0).toLoadRect (View.loadsAt_vmem h_S2048x4096)) fun _ =>
  Prog.op (.store arg10 (Rect.unit (s := S2048x4096) ![0, 0] S2048x4096.size inb_S2048x4096_S2048x4096_0_0)
    (shapeCast S2048x4096 (dist v0 v2) shapeCasts_S2048x4096_S2048x4096) Finset.univ
    (View.stores_vmem_bits_univ h_S2048x4096 rfl) (.inl rfl)) fun _ => k

theorem chunksK_eq (q : Nat) (hq : q < 32) (k : Lev F → Prog (TpuEff nD τ sig (Elt F) Λ₀ .tc) PUnit) :
    ∀ (n c : Nat) (h : c + n ≤ 32) (v : Lev F),
      chunksK arg10 q hq c n h v k = (chunks arg10 q hq c n h v >>= k)
  | 0, _, _, _ => rfl
  | n + 1, c, h, v => congrArg (Prog.op _) (funext fun y => chunksK_eq q hq k n (c + 1) (by omega) (v.ins y))

theorem trip_bind (q : Nat) (hq : q < 32) (k : Prog (TpuEff nD τ sig (Elt F) Λ₀ .tc) PUnit) :
    (trip arg10 arg11 q hq >>= fun _ => k)
      = (chunks arg10 q hq 0 32 (by omega) Lev.start >>= fun v => storeLevs arg11 q hq v >>= fun _ => k) :=
  Prog.bind_assoc _ _ _

theorem tripsK_eq (k : Prog (TpuEff nD τ sig (Elt F) Λ₀ .tc) PUnit) :
    ∀ (n q : Nat) (h : q + n ≤ 32),
      tripsK arg10 arg11 q n h k = (trips arg10 arg11 q n h >>= fun _ => k)
  | 0, _, _ => rfl
  | n + 1, q, h => by
    show chunksK arg10 q _ 0 32 _ Lev.start _
      = ((trip arg10 arg11 q (by omega) >>= fun _ => trips arg10 arg11 (q + 1) n (by omega)) >>= fun _ => k)
    rw [chunksK_eq, show ((trip arg10 arg11 q (by omega) >>= fun _ => trips arg10 arg11 (q + 1) n (by omega))
        >>= fun _ => k) = (trip arg10 arg11 q (by omega) >>= fun _ =>
          (trips arg10 arg11 (q + 1) n (by omega) >>= fun _ => k)) from Prog.bind_assoc _ _ _, trip_bind,
      tripsK_eq k n (q + 1) (by omega)]
    rfl

/-- The whole body, each part handed what follows it. -/
def bodyK : Prog (TpuEff nD τ sig (Elt F) Λ₀ .tc) PUnit :=
  storeDistK arg2 arg3 arg10 <| tripsK arg10 arg11 0 32 (by omega) <|
  choose arg4 arg10 arg11 >>= fun r =>
  finish i arg4 arg5 arg6 arg7 arg8 arg9 r.1 r.2

theorem bodyK_eq : bodyK (F := F) i arg2 arg3 arg4 arg5 arg6 arg7 arg8 arg9 arg10 arg11
    = body i arg2 arg3 arg4 arg5 arg6 arg7 arg8 arg9 arg10 arg11 := by
  show storeDistK arg2 arg3 arg10 (tripsK arg10 arg11 0 32 _ _) = _
  rw [tripsK_eq]
  rfl

end Cert.KernelIdeal.Body
-- ==== Proof.BodyEq.lean ====
module

public import proofs.«01_k».proof.Proof.Body

@[expose] public section

set_option maxRecDepth 100000
set_option maxHeartbeats 0
set_option synthInstance.maxSize 4096

noncomputable section

namespace Cert.KernelIdeal.Body

open Idealize.ShloMosaic Idealize.SL.Sem
open Facts₀ Facts

variable {F : FTy → Type} [FloatOps F] [Named F] [Facts]

theorem body_eq (i : grid0.Coords)
  (arg2 : Memref sig .tc .vmem S1x2048x3 .f32) (harg2 : arg2.IsWhole)
  (arg3 : Memref sig .tc .vmem S1x3x4096 .f32) (harg3 : arg3.IsWhole)
  (arg4 : Memref sig .tc .vmem S1x4096x64 .f32) (harg4 : arg4.IsWhole)
  (arg5 : Memref sig .tc .vmem S64x64 .f32) (harg5 : arg5.IsWhole)
  (arg6 : Memref sig .tc .vmem S64x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x2048x64 .f32) (harg9 : arg9.IsWhole)
  (arg10 : Memref sig .tc .vmem S2048x4096 .f32) (harg10 : arg10.IsWhole)
  (arg11 : Memref sig .tc .vmem S2048x640 .f32) (harg11 : arg11.IsWhole) :
    cc0__body (F := F) i arg2 harg2 arg3 harg3 arg4 harg4 arg5 harg5 arg6 harg6 arg7 harg7 arg8 harg8
      arg9 harg9 arg10 harg10 arg11 harg11
      = bodyK i arg2 arg3 arg4 arg5 arg6 arg7 arg8 arg9 arg10 arg11 := by
  exact rfl

end Cert.KernelIdeal.Body
-- ==== Proof.Triple.lean ====
/- What the kernel's body leaves, for any values of the floats.

   Each part of the body (Body.lean) gets a triple over whole buffers read as functions of their own
   indices: the distances, the levels the trips store, the two selections, the block. -/
module

public import proofs.«01_k».proof.Proof.Body
public import proofs.«01_k».proof.Proof.BodyEq
public import Idealize.ShloMosaic.Lib.Tactic
public import Idealize.ShloMosaic.Lib.VecWindow
public import Idealize.ShloMosaic.Lib.Scf
public import Idealize.ShloMosaic.Lib.Pipeline.FrameBody
public import Idealize.ShloMosaic.Lib.Pipeline.Value
public import Idealize.ShloMosaic.Lib.Pointwise.Index

@[expose] public section

set_option maxRecDepth 16384
set_option synthInstance.maxSize 4096

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F] [Named F] [Facts]

local notation "𝕄" => MT nD τ sig Unit (Elt F) ℕ (UR sig nD τ) ℕ

/-! ## Loads and stores of a buffer read as a function -/

/-- A load of a window, at the head of a program. -/
theorem wp_load_owns (c : Dev nD) (E : Set ℕ) {s : Shape} {e : EltTy} {α : Type} {Q : α → sProp 𝕄}
    (m : Memref sig .tc .vmem s e) (x : s.Idx → Elt F e) (off size : Fin s.rank → ℕ)
    (inb : ∀ a, off a + size a ≤ s.size a) (hl : m.view.LoadsAt (Rect.unit off size inb).toLoadRect)
    (k : ((Rect.unit off size inb).shape.Idx → Elt F e) → Prog (TpuEff nD τ sig (Elt F) Λ₀ .tc) α) :
    (owns (c : Thread nD τ) m fullShare x : sProp 𝕄)
      ⊢ iprop((owns (c : Thread nD τ) m fullShare x -∗
            wp frame (wpE (defs₀ (F := F)) Variants.none c none) E (k (VecWindow.window x off size inb)) Q)
        -∗ wp frame (wpE (defs₀ (F := F)) Variants.none c none) E
            (Prog.lift (.load m (Rect.unit off size inb).toLoadRect hl) >>= k) Q) := by
  unfold owns
  iintro ⟨%f, %hf, H⟩ HK
  subst hf
  rw [lift_bind]
  iapply (wp_load_rect Variants.none (c : Thread nD τ) none E (m := m) (r := Rect.unit off size inb) (hl := hl)
    (k := k) (Q := Q) (S := m.view.set) (f := f) (q := fullShare) (View.set_slice_subset _ _)) $$ H
  iintro H
  iapply HK
  iexists f
  isplitr
  · ipureintro; rfl
  iexact H

/-- A store of a window, at the head of a program. -/
theorem wp_store_owns (c : Dev nD) (E : Set ℕ) {s : Shape} {e : EltTy} {α : Type} {Q : α → sProp 𝕄}
    (m : Memref sig .tc .vmem s e) (x : s.Idx → Elt F e) (off size : Fin s.rank → ℕ)
    (inb : ∀ a, off a + size a ≤ s.size a) (w : (Rect.unit off size inb).shape.Idx → Elt F e)
    (hx : (m.access (Rect.unit off size inb)).Stores Finset.univ)
    (hm : Finset.univ = Finset.univ ∨ ∀ a, (Rect.unit off size inb).stride a = 1)
    (k : PUnit → Prog (TpuEff nD τ sig (Elt F) Λ₀ .tc) α) :
    (owns (c : Thread nD τ) m fullShare x : sProp 𝕄)
      ⊢ iprop((owns (c : Thread nD τ) m fullShare (VecWindow.put x off size w) -∗
            wp frame (wpE (defs₀ (F := F)) Variants.none c none) E (k ⟨⟩) Q)
        -∗ wp frame (wpE (defs₀ (F := F)) Variants.none c none) E
            (Prog.lift (.store m (Rect.unit off size inb) w Finset.univ hx hm) >>= k) Q) := by
  unfold owns
  iintro ⟨%f, %hf, H⟩ HK
  subst hf
  rw [lift_bind]
  iapply (wp_store_writes₀ Variants.none (c : Thread nD τ) none E (m := m) (r := Rect.unit off size inb) (w := w)
    (hx := hx) (hm := hm) (k := k) (Q := Q) (S := m.view.set) (f := f) (View.set_slice_subset _ _)) $$ H
  iintro H
  iapply HK
  iexists _
  isplitr
  swap
  · iexact H
  ipureintro
  exact View.read_writes_cons_put m.view f inb w [] rfl

/-- A window of the buffer's own sizes is the buffer. -/
theorem window_full {α : Type} {s : Shape} (x : s.Idx → α) (off : Fin s.rank → ℕ) (inb : ∀ a, off a + s.size a ≤ s.size a) :
    VecWindow.window x off s.size inb = x :=
  funext fun y => congrArg x (Rect.emb_unit_full inb y)

/-- A buffer with a window of its own sizes put there is the window. -/
theorem put_full {α : Type} {s : Shape} (x : s.Idx → α) (off : Fin s.rank → ℕ) (inb : ∀ a, off a + s.size a ≤ s.size a)
    (w : s.Idx → α) : VecWindow.put x off s.size w = w := by
  funext y
  have h0 : ∀ a, off a = 0 := fun a => by have := inb a; omega
  unfold VecWindow.put
  rw [dif_pos fun a => ⟨by rw [h0]; exact Nat.zero_le _, by rw [h0]; have := (y a).isLt; omega⟩]
  exact congrArg w (funext fun a => Fin.ext (by show (y a).val - off a = _; rw [h0]; rfl))

/-! ## What each part leaves -/

/-- The levels after the chunks `c`, …, `c + n - 1` of the rows of trip `q`. -/
def levAfter (D : FVec F S2048x4096 .f32) (q : Nat) (hq : q < 32) : (c n : Nat) → c + n ≤ 32 → Lev F → Lev F
  | _, 0, _, v => v
  | c, n + 1, h, v => levAfter D q hq (c + 1) n (by omega)
      (v.ins (VecWindow.window D (offD c q) S64x128.size (offD_inb c q (by omega) hq)))

/-- Level `j` of five. -/
def Lev.get (v : Lev F) : Nat → FVec F S64x128 .f32
  | 0 => v.l0
  | 1 => v.l1
  | 2 => v.l2
  | 3 => v.l3
  | _ => v.l4

/-- The five levels of every row, side by side: what the trips leave in the second scratch array. -/
def levels (D : FVec F S2048x4096 .f32) : FVec F S2048x640 .f32 := fun y =>
  (levAfter D ((y 0).val / 64) (by have : (y 0).val < 2048 := (y 0).isLt; omega) 0 32 (by omega) Lev.start).get
    ((y 1).val / 128)
    (ix2 ⟨(y 0).val % 64, by omega⟩ ⟨(y 1).val % 128, by omega⟩)

/-- The rows below trip `q` hold their levels. -/
def Done (D : FVec F S2048x4096 .f32) (q : Nat) (P : FVec F S2048x640 .f32) : Prop :=
  ∀ y : S2048x640.Idx, (y 0).val < 64 * q → P y = levels D y

/-- The second scratch array after the stores of one trip. -/
def putLevs (P : FVec F S2048x640 .f32) (q : Nat) (v : Lev F) : FVec F S2048x640 .f32 :=
  VecWindow.put (VecWindow.put (VecWindow.put (VecWindow.put (VecWindow.put P
    (offP 0 q) S64x128.size v.l0) (offP 1 q) S64x128.size v.l1) (offP 2 q) S64x128.size v.l2)
    (offP 3 q) S64x128.size v.l3) (offP 4 q) S64x128.size v.l4

theorem offP_row (j q : Nat) (hq : q < 32) : offP j q 0 = 64 * q := row_eq q hq

/-- One level put: the rows of the trip, in the level's columns, hold it; the rest stays. -/
theorem put_level (P : FVec F S2048x640 .f32) (q j : Nat) (hq : q < 32) (w : FVec F S64x128 .f32) (y : S2048x640.Idx) :
    VecWindow.put P (offP j q) S64x128.size w y
      = if (y 0).val / 64 = q ∧ (y 1).val / 128 = j then
          w (ix2 ⟨(y 0).val % 64, by omega⟩ ⟨(y 1).val % 128, by omega⟩)
        else P y := by
  have h0 : offP j q 0 = 64 * q := offP_row j q hq
  have h1 : offP j q 1 = 128 * j := rfl
  by_cases h : (y 0).val / 64 = q ∧ (y 1).val / 128 = j
  · rw [if_pos h]
    unfold VecWindow.put
    rw [dif_pos (by
      intro a
      match a with
      | ⟨0, _⟩ => exact ⟨by show offP j q 0 ≤ (y 0).val; omega, by show (y 0).val < offP j q 0 + 64; omega⟩
      | ⟨1, _⟩ => exact ⟨by show offP j q 1 ≤ (y 1).val; omega, by show (y 1).val < offP j q 1 + 128; omega⟩)]
    refine congrArg w (funext fun a => Fin.ext ?_)
    match a with
    | ⟨0, _⟩ => show (y 0).val - offP j q 0 = (y 0).val % 64; omega
    | ⟨1, _⟩ => show (y 1).val - offP j q 1 = (y 1).val % 128; omega
  · rw [if_neg h]
    unfold VecWindow.put
    rw [dif_neg]
    intro hh
    have a0 : offP j q 0 ≤ (y 0).val ∧ (y 0).val < offP j q 0 + 64 := hh 0
    have a1 : offP j q 1 ≤ (y 1).val ∧ (y 1).val < offP j q 1 + 128 := hh 1
    exact h ⟨by omega, by omega⟩

/-- A trip takes the rows below it to the rows below the next. -/
theorem Done.step {D : FVec F S2048x4096 .f32} {P : FVec F S2048x640 .f32} {q : Nat} (hq : q < 32) (h : Done D q P) :
    Done D (q + 1) (putLevs P q (levAfter D q hq 0 32 (by omega) Lev.start)) := by
  intro y hy
  unfold putLevs
  have h640 : (y 1).val < 640 := (y 1).isLt
  by_cases hr : (y 0).val / 64 = q
  · subst hr
    simp only [put_level _ _ _ hq, _root_.true_and]
    unfold levels
    have hj : (y 1).val / 128 = 0 ∨ (y 1).val / 128 = 1 ∨ (y 1).val / 128 = 2 ∨ (y 1).val / 128 = 3 ∨ (y 1).val / 128 = 4 := by omega
    rcases hj with e | e | e | e | e <;> simp only [e] <;> rfl
  · simp only [put_level _ _ _ hq, hr, _root_.false_and, if_false]
    exact h y (by omega)

/-- The threshold by the levels, and the one by all the distances. -/
def thrP (P : FVec F S2048x640 .f32) : FVec F S2048x1 .f32 := (nextP P)^[21] near
def thrD (D : FVec F S2048x4096 .f32) : FVec F S2048x1 .f32 := (nextD D)^[21] near

/-- The deepest level of every row. -/
def deepest (P : FVec F S2048x640 .f32) : FVec F S2048x128 .f32 :=
  VecWindow.window P ![0, 512] S2048x128.size inb_S2048x640_S2048x128_0_512

/-- The threshold of each row: by the levels, or by all the distances when some deepest level is below it. -/
def thr (D : FVec F S2048x4096 .f32) : FVec F S2048x1 .f32 :=
  if overflow (deepest (levels D)) (thrP (levels D)) = 1#1 then thrD D else thrP (levels D)

/-- The block a grid point leaves, from the blocks it reads. -/
def out (i : grid0.Coords) (x2 : FVec F S1x2048x3 .f32) (x3 : FVec F S1x3x4096 .f32) (x4 : FVec F S1x4096x64 .f32)
    (x5 x6 : FVec F S64x64 .f32) (x7 x8 : FVec F S1x64 .f32) : FVec F S1x2048x64 .f32 :=
  blockOut (within (dist x2 x3) (thr (dist x2 x3))) (shapeCast S4096x64 x4 shapeCasts_S1x4096x64_S4096x64)
    (VecWindow.window x4 (k0_off38 i) S1x2048x64.size (k0_off38_inb i)) x5 x6 x7 x8

/-! ## The triples -/

variable (i : grid0.Coords)
  (arg2 : Memref sig .tc .vmem S1x2048x3 .f32) (harg2 : arg2.IsWhole)
  (arg3 : Memref sig .tc .vmem S1x3x4096 .f32) (harg3 : arg3.IsWhole)
  (arg4 : Memref sig .tc .vmem S1x4096x64 .f32) (harg4 : arg4.IsWhole)
  (arg5 : Memref sig .tc .vmem S64x64 .f32) (harg5 : arg5.IsWhole)
  (arg6 : Memref sig .tc .vmem S64x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x2048x64 .f32) (harg9 : arg9.IsWhole)
  (arg10 : Memref sig .tc .vmem S2048x4096 .f32) (harg10 : arg10.IsWhole)
  (arg11 : Memref sig .tc .vmem S2048x640 .f32) (harg11 : arg11.IsWhole)
  (c : Dev nD) (E : Set ℕ)

/-- The chunks of a trip, at the head of a program. -/
theorem wp_chunks {α : Type} {Q : α → sProp 𝕄} (D : FVec F S2048x4096 .f32) (q : Nat) (hq : q < 32)
    (k : Lev F → Prog (TpuEff nD τ sig (Elt F) Λ₀ .tc) α) : ∀ (n c' : Nat) (h : c' + n ≤ 32) (v : Lev F),
    (owns (c : Thread nD τ) arg10 fullShare D : sProp 𝕄)
      ⊢ iprop((owns (c : Thread nD τ) arg10 fullShare D -∗
            wp frame (wpE (defs₀ (F := F)) Variants.none c none) E (k (levAfter D q hq c' n h v)) Q)
        -∗ wp frame (wpE (defs₀ (F := F)) Variants.none c none) E (chunks arg10 q hq c' n h v >>= k) Q)
  | 0, c', h, v => by
    iintro H HK
    iapply HK
    iexact H
  | n + 1, c', h, v => by
    unfold chunks
    rw [Prog.bind_assoc]
    iintro H HK
    iapply (wp_load_owns c E arg10 D _ _ _ _ _) $$ H
    iintro H
    iapply (wp_chunks D q hq k n (c' + 1) _ _) $$ H
    iexact HK

/-- One level stored, at the head of a program. -/
theorem wp_storeLev {α : Type} {Q : α → sProp 𝕄} (P : FVec F S2048x640 .f32) (q : Nat) (hq : q < 32) (j : Nat) (hj : j < 5)
    (v : FVec F S64x128 .f32) (k : PUnit → Prog (TpuEff nD τ sig (Elt F) Λ₀ .tc) α) :
    (owns (c : Thread nD τ) arg11 fullShare P : sProp 𝕄)
      ⊢ iprop((owns (c : Thread nD τ) arg11 fullShare (VecWindow.put P (offP j q) S64x128.size v) -∗
            wp frame (wpE (defs₀ (F := F)) Variants.none c none) E (k ⟨⟩) Q)
        -∗ wp frame (wpE (defs₀ (F := F)) Variants.none c none) E (storeLev arg11 q hq j hj v >>= k) Q) := by
  unfold storeLev
  rw [Prog.bind_assoc]
  iintro H HK
  iapply (wp_load_owns c E arg11 P _ _ _ _ _) $$ H
  iintro H
  iapply (wp_store_owns c E arg11 P _ _ _ _ _ _ _) $$ H
  rw [shapeCast_self]
  iexact HK

/-- The trips, at the head of a program: the rows below the last hold their levels. -/
theorem wp_trips {α : Type} {Q : α → sProp 𝕄} (D : FVec F S2048x4096 .f32)
    (k : PUnit → Prog (TpuEff nD τ sig (Elt F) Λ₀ .tc) α) : ∀ (n q : Nat) (h : q + n ≤ 32) (P : FVec F S2048x640 .f32) (hP : Done D q P),
    iprop(owns (c : Thread nD τ) arg10 fullShare D ∗ owns (c : Thread nD τ) arg11 fullShare P : sProp 𝕄)
      ⊢ iprop((∀ P', ⌜Done D (q + n) P'⌝ -∗ owns (c : Thread nD τ) arg10 fullShare D -∗ owns (c : Thread nD τ) arg11 fullShare P' -∗
            wp frame (wpE (defs₀ (F := F)) Variants.none c none) E (k ⟨⟩) Q)
        -∗ wp frame (wpE (defs₀ (F := F)) Variants.none c none) E (trips arg10 arg11 q n h >>= k) Q)
  | 0, q, h, P, hP => by
    iintro ⟨HD, HP⟩ HK
    iapply HK $$ %P %hP HD HP
  | n + 1, q, h, P, hP => by
    unfold trips trip storeLevs
    simp only [Prog.bind_assoc]
    iintro ⟨HD, HP⟩ HK
    iapply (wp_chunks arg10 c E D q _ _ _ _ _ _) $$ HD
    iintro HD
    iapply (wp_storeLev arg11 c E _ q _ _ _ _ _) $$ HP
    iintro HP
    iapply (wp_storeLev arg11 c E _ q _ _ _ _ _) $$ HP
    iintro HP
    iapply (wp_storeLev arg11 c E _ q _ _ _ _ _) $$ HP
    iintro HP
    iapply (wp_storeLev arg11 c E _ q _ _ _ _ _) $$ HP
    iintro HP
    iapply (wp_storeLev arg11 c E _ q _ _ _ _ _) $$ HP
    iintro HP
    iapply (wp_trips D k n (q + 1) _ _ (hP.step (by omega))) $$ [HD HP]
    · isplitl [HD]
      · iexact HD
      iexact HP
    rw [show q + 1 + n = q + (n + 1) from by omega]
    iexact HK

/-- The selection over the levels, at the head of a program. -/
theorem wp_selP {α : Type} {Q : α → sProp 𝕄} (P : FVec F S2048x640 .f32)
    (k : FVec F S2048x1 .f32 → Prog (TpuEff nD τ sig (Elt F) Λ₀ .tc) α) :
    (owns (c : Thread nD τ) arg11 fullShare P : sProp 𝕄)
      ⊢ iprop((owns (c : Thread nD τ) arg11 fullShare P -∗
            wp frame (wpE (defs₀ (F := F)) Variants.none c none) E (k (thrP P)) Q)
        -∗ wp frame (wpE (defs₀ (F := F)) Variants.none c none) E (selP arg11 >>= k) Q) := by
  unfold selP
  iintro H HK
  iapply (Scf.wp_for_bind frame (wpE (defs₀ (F := F)) Variants.none c none) E _ _ _ k0_t1_ok near _
    (fun n m => iprop(⌜m = (nextP P)^[n] near⌝ ∗ owns (c : Thread nD τ) arg11 fullShare P : sProp 𝕄))
    (by
      intro n m
      iintro ⟨%hm, H⟩
      iapply (wp_load_owns c E arg11 P _ _ _ _ _) $$ H
      iintro H
      rw [window_full, wp_pure]
      imodintro
      isplitr
      · ipureintro
        rw [Function.iterate_succ_apply', hm]
      iexact H)) $$ [H]
  · isplitr
    · ipureintro
      rfl
    iexact H
  iintro %m ⟨%hm, H⟩
  rw [show m = thrP P from hm]
  iapply HK
  iexact H

/-- The selection over all the distances, at the head of a program. -/
theorem wp_selD {α : Type} {Q : α → sProp 𝕄} (D : FVec F S2048x4096 .f32)
    (k : FVec F S2048x1 .f32 → Prog (TpuEff nD τ sig (Elt F) Λ₀ .tc) α) :
    (owns (c : Thread nD τ) arg10 fullShare D : sProp 𝕄)
      ⊢ iprop((owns (c : Thread nD τ) arg10 fullShare D -∗
            wp frame (wpE (defs₀ (F := F)) Variants.none c none) E (k (thrD D)) Q)
        -∗ wp frame (wpE (defs₀ (F := F)) Variants.none c none) E (selD arg10 >>= k) Q) := by
  unfold selD
  iintro H HK
  iapply (Scf.wp_for_bind frame (wpE (defs₀ (F := F)) Variants.none c none) E _ _ _ k0_t2_ok near _
    (fun n m => iprop(⌜m = (nextD D)^[n] near⌝ ∗ owns (c : Thread nD τ) arg10 fullShare D : sProp 𝕄))
    (by
      intro n m
      iintro ⟨%hm, H⟩
      iapply (wp_load_owns c E arg10 D _ _ _ _ _) $$ H
      iintro H
      rw [window_full, wp_pure]
      imodintro
      isplitr
      · ipureintro
        rw [Function.iterate_succ_apply', hm]
      iexact H)) $$ [H]
  · isplitr
    · ipureintro
      rfl
    iexact H
  iintro %m ⟨%hm, H⟩
  rw [show m = thrD D from hm]
  iapply HK
  iexact H

/-- What is gathered with a threshold, at the head of a program. -/
theorem wp_gather {α : Type} {Q : α → sProp 𝕄} (D : FVec F S2048x4096 .f32) (x4 : FVec F S1x4096x64 .f32) (t : FVec F S2048x1 .f32)
    (k : (Σ' (_ : FVec F S2048x4096 .f32), FVec F S4096x64 .f32) → Prog (TpuEff nD τ sig (Elt F) Λ₀ .tc) α) :
    iprop(owns (c : Thread nD τ) arg10 fullShare D ∗ owns (c : Thread nD τ) arg4 fullShare x4 : sProp 𝕄)
      ⊢ iprop((owns (c : Thread nD τ) arg10 fullShare D -∗ owns (c : Thread nD τ) arg4 fullShare x4 -∗
            wp frame (wpE (defs₀ (F := F)) Variants.none c none) E
              (k ⟨within D t, shapeCast S4096x64 x4 shapeCasts_S1x4096x64_S4096x64⟩) Q)
        -∗ wp frame (wpE (defs₀ (F := F)) Variants.none c none) E (gather arg4 arg10 t >>= k) Q) := by
  unfold gather
  simp only [Prog.bind_assoc]
  iintro ⟨HD, H4⟩ HK
  iapply (wp_load_owns c E arg10 D _ _ _ _ _) $$ HD
  iintro HD
  iapply (wp_load_owns c E arg4 x4 _ _ _ _ _) $$ H4
  iintro H4
  rw [window_full, window_full]
  iapply HK $$ HD H4

/-- The choice of the thresholds, at the head of a program. -/
theorem wp_choose {α : Type} {Q : α → sProp 𝕄} (D : FVec F S2048x4096 .f32) (x4 : FVec F S1x4096x64 .f32)
    (k : (Σ' (_ : FVec F S2048x4096 .f32), FVec F S4096x64 .f32) → Prog (TpuEff nD τ sig (Elt F) Λ₀ .tc) α) :
    iprop(owns (c : Thread nD τ) arg10 fullShare D ∗ owns (c : Thread nD τ) arg4 fullShare x4
        ∗ owns (c : Thread nD τ) arg11 fullShare (levels D) : sProp 𝕄)
      ⊢ iprop((owns (c : Thread nD τ) arg10 fullShare D -∗ owns (c : Thread nD τ) arg4 fullShare x4 -∗
            owns (c : Thread nD τ) arg11 fullShare (levels D) -∗
            wp frame (wpE (defs₀ (F := F)) Variants.none c none) E
              (k ⟨within D (thr D), shapeCast S4096x64 x4 shapeCasts_S1x4096x64_S4096x64⟩) Q)
        -∗ wp frame (wpE (defs₀ (F := F)) Variants.none c none) E (choose arg4 arg10 arg11 >>= k) Q) := by
  unfold choose
  simp only [Prog.bind_assoc]
  iintro ⟨HD, H4, HP⟩ HK
  iapply (wp_selP arg11 c E (levels D) _) $$ HP
  iintro HP
  iapply (wp_load_owns c E arg11 (levels D) _ _ _ _ _) $$ HP
  iintro HP
  rw [show VecWindow.window (levels D) ![0, 512] ![2048, 128] inb_S2048x640_S2048x128_0_512 = deepest (levels D) from rfl]
  unfold thr
  by_cases h : overflow (deepest (levels D)) (thrP (levels D)) = 1#1
  · rw [if_pos h, if_pos h]
    simp only [Prog.bind_assoc]
    iapply (wp_selD arg10 c E D _) $$ HD
    iintro HD
    iapply (wp_gather arg4 arg10 c E D x4 _ _) $$ [HD H4]
    · isplitl [HD]
      · iexact HD
      iexact H4
    iintro HD H4
    iapply HK $$ HD H4 HP
  · rw [if_neg h, if_neg h]
    iapply (wp_gather arg4 arg10 c E D x4 _ _) $$ [HD H4]
    · isplitl [HD]
      · iexact HD
      iexact H4
    iintro HD H4
    iapply HK $$ HD H4 HP

/-- The whole body: from the blocks it reads, the output block at `out`; the scratch arrays at anything
    before and after. -/
theorem sound_body (K : PUnit → sProp 𝕄) (x2 : FVec F S1x2048x3 .f32) (x3 : FVec F S1x3x4096 .f32)
    (x4 : FVec F S1x4096x64 .f32) (x5 x6 : FVec F S64x64 .f32) (x7 x8 : FVec F S1x64 .f32)
    (y9 : FVec F S1x2048x64 .f32) (y10 : FVec F S2048x4096 .f32) (y11 : FVec F S2048x640 .f32) :
    iprop(owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare x8 ∗ owns (c : Thread nD τ) arg9 fullShare y9
        ∗ owns (c : Thread nD τ) arg10 fullShare y10 ∗ owns (c : Thread nD τ) arg11 fullShare y11
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare x8
            ∗ owns (c : Thread nD τ) arg9 fullShare (out i x2 x3 x4 x5 x6 x7 x8)
            ∗ (∃ z10, owns (c : Thread nD τ) arg10 fullShare z10) ∗ (∃ z11, owns (c : Thread nD τ) arg11 fullShare z11))
          -∗ K ⟨⟩) : sProp 𝕄)
      ⊢ wp frame (wpE (defs₀ (F := F)) Variants.none c none) E
          (body i arg2 arg3 arg4 arg5 arg6 arg7 arg8 arg9 arg10 arg11) K := by
  rw [show body (F := F) i arg2 arg3 arg4 arg5 arg6 arg7 arg8 arg9 arg10 arg11
    = (storeDist arg2 arg3 arg10 >>= fun _ =>
      trips arg10 arg11 0 32 (by omega) >>= fun _ =>
      choose arg4 arg10 arg11 >>= fun r =>
      (finish i arg4 arg5 arg6 arg7 arg8 arg9 r.1 r.2 >>= pure)) from by unfold body; simp only [Prog.bind_pure]]
  unfold storeDist finish
  simp only [Prog.bind_assoc]
  iintro ⟨H2, H3, H4, H5, H6, H7, H8, H9, H10, H11, HK⟩
  iapply (wp_load_owns c E arg2 x2 _ _ _ _ _) $$ H2
  iintro H2
  iapply (wp_load_owns c E arg3 x3 _ _ _ _ _) $$ H3
  iintro H3
  iapply (wp_load_owns c E arg10 y10 _ _ _ _ _) $$ H10
  iintro H10
  iapply (wp_store_owns c E arg10 y10 _ _ _ _ _ _ _) $$ H10
  iintro H10
  rw [window_full, window_full, put_full _ _ inb_S2048x4096_S2048x4096_0_0, shapeCast_self]
  iapply (wp_trips arg10 arg11 c E (dist x2 x3) _ 32 0 _ y11 (fun y hy => absurd hy (by omega))) $$ [H10 H11]
  · isplitl [H10]
    · iexact H10
    iexact H11
  iintro %P %hP H10 H11
  have hP' : P = levels (dist x2 x3) := funext fun y => hP y (by have : (y 0).val < 2048 := (y 0).isLt; omega)
  subst hP'
  iapply (wp_choose arg4 arg10 arg11 c E (dist x2 x3) x4 _) $$ [H10 H4 H11]
  · isplitl [H10]
    · iexact H10
    isplitl [H4]
    · iexact H4
    iexact H11
  iintro H10 H4 H11
  iapply (wp_load_owns c E arg4 x4 _ _ _ _ _) $$ H4
  iintro H4
  iapply (wp_load_owns c E arg5 x5 _ _ _ _ _) $$ H5
  iintro H5
  iapply (wp_load_owns c E arg6 x6 _ _ _ _ _) $$ H6
  iintro H6
  iapply (wp_load_owns c E arg7 x7 _ _ _ _ _) $$ H7
  iintro H7
  iapply (wp_load_owns c E arg8 x8 _ _ _ _ _) $$ H8
  iintro H8
  iapply (wp_load_owns c E arg9 y9 _ _ _ _ _) $$ H9
  iintro H9
  iapply (wp_store_owns c E arg9 y9 _ _ _ _ _ _ _) $$ H9
  iintro H9
  rw [window_full, window_full, window_full, window_full, put_full _ _ inb_S1x2048x64_S1x2048x64_0_0_0, wp_pure]
  imodintro
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; iexact H10
  iexists _; iexact H11

end Cert.KernelIdeal.Body
-- ==== Proof.Run.lean ====
/- The run of the kernel, for any values of the floats: the pipeline's proof data from what the body leaves
   (Triple.lean), the launch, and the frame. -/
module

public import proofs.«01_k».proof.Proof.Triple
public import proofs.«01_k».proof.Proof.Gen.KernelIdeal.Frame
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block the body leaves at grid point `t`, from the blocks of the arrays. -/
def outAt (c : Dev nD) (t : Fin cfg0.N) : FVec F S1x2048x64 .f32 :=
  Body.out (grid0.coords t) (iblk m c 0 t) (iblk m c 1 t) (iblk m c 2 t) (iblk m c 3 t) (iblk m c 4 t)
    (iblk m c 5 t) (iblk m c 6 t)

/-- The proof data of the one pipeline: each input's buffer stays at its block, the output's ends at `outAt`;
    the scratch arrays and the generator's register are carried along at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

/-- What the body finds in each input's buffer: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The scratch arrays, each held whole at something. -/
theorem scratch_eq (c : Dev nD) :
    (Pipeline.scopedRest (Ix := Unit) (Name := ℕ) (U := UR sig nD τ) (Lvl := ℕ) (Val := Elt F) spec0 c : sProp 𝕄)
      = iprop((∃ f, owns (c : Thread nD τ) (Memref.whole cc0_scratch0) fullShare f)
        ∗ (∃ f, owns (c : Thread nD τ) (Memref.whole cc0_scratch1) fullShare f)) := by
  rw [scopedRest0_eq]
  simp only [owns_whole]

/-- The body at any grid point takes the one to the other. -/
theorem sound_point (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Body.body_eq, Body.bodyK_eq]
  simp only [before0_0, before0_1, before0_2, before0_3, before0_4, before0_5, before0_6]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold Pipeline.ΦA
  rw [scratch_eq]
  iintro ⟨⟨⟨⟨%f10, H10⟩, ⟨%f11, H11⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (Body.sound_body (grid0.coords t) _ _ _ _ _ _ _ _ _ _ c Set.univ _ (iblk m c 0 t) (iblk m c 1 t) (iblk m c 2 t)
    (iblk m c 3 t) (iblk m c 4 t) (iblk m c 5 t) (iblk m c 6 t) _ f10 f11)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  iintro ⟨H0, H1, H2, H3, H4, H5, H6, H7, ⟨%z10, H10⟩, ⟨%z11, H11⟩⟩
  isplitl [H10 H11 Hr]
  · isplitl [H10 H11]
    · isplitl [H10]
      · iexists z10; iexact H10
      iexists z11; iexact H11
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body's obligation, at every grid point. -/
theorem body_obligation (c : Dev nD) : BodyObligation (dats (F := F) m 0 c) (defs₀ (F := F)) Variants.none () Set.univ := fun t => by
  rw [bigSep_W0, bigSep_W0, defs₀_row]
  exact triple_restated (sound_point m c t) rfl .rfl fun _ => .rfl

set_option backward.isDefEq.respectTransparency.types false in
/-- The launch: every run ends, with the arrays at what the proof data say, and every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Frames.lean ====
/- The frames of the three programs, and what the named constants stand for.

   The frame of the kernel is on the floats' own words. Its text is the idealized kernel's with the named
   constants spelled as words, so it is the same run read at names that mean their words. -/
module

public import proofs.«01_k».proof.Defs
public import proofs.«01_k».proof.Proof.Gen.Kernel
public import proofs.«01_k».proof.Proof.Run
public import proofs.«01_k».proof.Proof.Gen.ReferenceIdeal
public import proofs.«01_k».proof.Proof.Gen.ReferenceIdeal.Run

@[expose] public section

set_option maxRecDepth 100000

noncomputable section

namespace Cert.Proof

open Idealize.ShloMosaic Idealize.SL.Sem

/-- Every name read as the word it stands for. -/
abbrev words : Named Bits := ⟨fun _ _ {φ} b => Scalar.ofBits φ b⟩

/-- The two programs' bodies are the same one. -/
theorem body_bits : (Cert.Kernel.cc0__body (F := Bits)) = (letI := words; Cert.KernelIdeal.cc0__body (F := Bits)) := by
  rfl

/-- The two programs' body tables are the same one. -/
theorem defs₀_bits : (Cert.Kernel.defs₀ (F := Bits)) = (letI := words; Cert.KernelIdeal.defs₀ (F := Bits)) := by
  unfold Cert.Kernel.defs₀ Cert.KernelIdeal.defs₀
  refine congrArg Defs.onTc (funext fun l => funext fun a => ?_)
  match l, a with
  | ⟨0, _⟩, (t, s) => rfl

/-- So are their tables with the pipeline's rows. -/
theorem defs_bits : (Cert.Kernel.defs (F := Bits)) = (letI := words; Cert.KernelIdeal.defs (F := Bits)) := by
  unfold Cert.Kernel.defs Cert.KernelIdeal.defs
  rw [defs₀_bits]
  rfl

/-- So are their entry points. -/
theorem main_bits : (Cert.Kernel.main (F := Bits)) = (letI := words; Cert.KernelIdeal.main (F := Bits)) := by
  rfl

/-- The frame of the kernel. -/
theorem frame_kernel : Cert.quiescent_Kernel := fun m g _ => by
  rw [defs_bits, main_bits]
  letI := words
  exact Cert.KernelIdeal.Run.frame (F := Bits) m g

/-- The frame of the idealized kernel. -/
theorem frame_ideal : Cert.quiescent_KernelIdeal := fun m g _ =>
  Cert.KernelIdeal.Run.frame (F := Ideal) m g

/-- The frame of the reference. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- What each of the three named constants stands for. -/
theorem preserves : Cert.preserves_Kernel_KernelIdeal :=
  ⟨IdealRules.named_const.statement Cert.KernelIdeal.κ "far" .f32 0x7F61B1E6#32 ⊤ rfl,
   IdealRules.named_const.statement Cert.KernelIdeal.κ "near" .f32 0xFF61B1E6#32 ⊥ rfl,
   IdealRules.named_const.statement Cert.KernelIdeal.κ "mean" .f32 0x3D430C31#32 ((21⁻¹ : ℝ) : EReal) rfl⟩

end Cert.Proof

end
-- ==== Proof.Select.lean ====
/-
  The mathematics of the selection, with no program in it: the rounds "the smallest entry above the last one", the five
  smallest kept per lane, and the neighbours a sorted row has.
-/
module

public import Idealize.ShloMosaic.Lib.SortFacts
public import Mathlib.Data.EReal.Operations
public import Mathlib.Data.EReal.Inv

@[expose] public section

noncomputable section

namespace Cert.Select

variable {ι κ : Type} [Fintype ι] [Fintype κ]

/-- The smallest entry of `S` strictly above `m`, `⊤` when there is none. -/
def above (S : ι → EReal) (m : EReal) : EReal := Finset.univ.inf fun i => if m < S i then S i else ⊤

/-- `above S m` is a lower bound of the entries above `m`. -/
theorem above_le (S : ι → EReal) (m : EReal) (i : ι) (h : m < S i) : above S m ≤ S i := by
  have := Finset.inf_le (f := fun i => if m < S i then S i else ⊤) (Finset.mem_univ i)
  simpa only [above, if_pos h] using this

/-- `above S m` is the greatest lower bound of the entries above `m`. -/
theorem le_above (S : ι → EReal) (m b : EReal) (h : ∀ i, m < S i → b ≤ S i) : b ≤ above S m := by
  refine Finset.le_inf fun i _ => ?_
  by_cases hi : m < S i
  · rw [if_pos hi]; exact h i hi
  · rw [if_neg hi]; exact le_top

/-- A round never goes down. -/
theorem self_le_above (S : ι → EReal) (m : EReal) : m ≤ above S m := le_above S m m fun i h => h.le

/-- The rounds from `⊥` ascend. -/
theorem iterate_mono (S : ι → EReal) : Monotone fun k => (above S)^[k] ⊥ := by
  refine monotone_nat_of_le_succ fun k => ?_
  show _ ≤ (above S)^[k + 1] ⊥
  rw [Function.iterate_succ_apply']
  exact self_le_above S _

/-- A family `P` that holds only entries of `D` (or `⊤`), and of every entry of `D` either the entry itself or a value
    below it that the `n`-th round on `P` does not exceed, runs the same first `n` rounds as `D`. -/
theorem iterate_eq (D : ι → EReal) (P : κ → EReal) (n : ℕ) (hsub : ∀ p, P p = ⊤ ∨ ∃ i, D i = P p)
    (hcov : ∀ i, ∃ p, P p = D i ∨ ((above P)^[n] ⊥ ≤ P p ∧ P p ≤ D i)) :
    ∀ k ≤ n, (above P)^[k] ⊥ = (above D)^[k] ⊥ := by
  intro k
  induction k with
  | zero => intro _; rfl
  | succ k ih =>
    intro hk
    have e := ih (by omega)
    have hmono : above P ((above P)^[k] ⊥) ≤ (above P)^[n] ⊥ := by
      rw [← Function.iterate_succ_apply' (above P)]
      exact iterate_mono P hk
    rw [Function.iterate_succ_apply', Function.iterate_succ_apply', ← e]
    refine le_antisymm (le_above _ _ _ fun i hi => ?_) (le_above _ _ _ fun p hp => ?_)
    · obtain ⟨p, h | ⟨h1, h2⟩⟩ := hcov i
      · rw [← h]; exact above_le P _ p (by rw [h]; exact hi)
      · exact hmono.trans (h1.trans h2)
    · rcases hsub p with h | ⟨i, h⟩
      · rw [h]; exact le_top
      · rw [← h]; exact above_le D _ i (by rw [h]; exact hp)

/-- What five kept values owe to the values seen so far: each is one of them or `⊤`, and every value seen is kept or is
    at least the fifth. -/
structure Kept (Y : EReal → Prop) (l0 l1 l2 l3 l4 : EReal) : Prop where
  sub : ∀ x, x = l0 ∨ x = l1 ∨ x = l2 ∨ x = l3 ∨ x = l4 → x = ⊤ ∨ Y x
  cov : ∀ y, Y y → (y = l0 ∨ y = l1 ∨ y = l2 ∨ y = l3 ∨ y = l4) ∨ l4 ≤ y

/-- One exchange makes no new value: what holds of two values holds of their minimum and of their maximum. -/
theorem exchange_sub {Q : EReal → Prop} {l z : EReal} (hl : Q l) (hz : Q z) : Q (min l z) ∧ Q (max l z) := by
  rcases le_total l z with h | h
  · rw [min_eq_left h, max_eq_right h]; exact ⟨hl, hz⟩
  · rw [min_eq_right h, max_eq_left h]; exact ⟨hz, hl⟩

/-- One exchange loses no value: each of the two is the minimum or the maximum. -/
theorem exchange_cov {x l z : EReal} (h : x = l ∨ x = z) : x = min l z ∨ x = max l z := by
  rcases le_total l z with g | g
  · rw [min_eq_left g, max_eq_right g]; exact h
  · rw [min_eq_right g, max_eq_left g]; exact h.symm

/-- The five kept values after `y` is pushed through them: each takes the smaller of itself and what reaches it, and
    passes the greater on. -/
theorem Kept.ins {Y : EReal → Prop} {l0 l1 l2 l3 l4 : EReal} (h : Kept Y l0 l1 l2 l3 l4) (y : EReal) :
    Kept (fun x => Y x ∨ x = y) (min l0 y) (min l1 (max l0 y)) (min l2 (max l1 (max l0 y)))
      (min l3 (max l2 (max l1 (max l0 y)))) (min l4 (max l3 (max l2 (max l1 (max l0 y))))) := by
  have old : ∀ l, (l = l0 ∨ l = l1 ∨ l = l2 ∨ l = l3 ∨ l = l4) → l = ⊤ ∨ Y l ∨ l = y := fun l hl =>
    (h.sub l hl).imp_right Or.inl
  obtain ⟨a0, b0⟩ := exchange_sub (Q := fun x => x = ⊤ ∨ Y x ∨ x = y) (old l0 (by simp)) (Or.inr (Or.inr rfl : Y y ∨ y = y))
  obtain ⟨a1, b1⟩ := exchange_sub (Q := fun x => x = ⊤ ∨ Y x ∨ x = y) (old l1 (by simp)) b0
  obtain ⟨a2, b2⟩ := exchange_sub (Q := fun x => x = ⊤ ∨ Y x ∨ x = y) (old l2 (by simp)) b1
  obtain ⟨a3, b3⟩ := exchange_sub (Q := fun x => x = ⊤ ∨ Y x ∨ x = y) (old l3 (by simp)) b2
  obtain ⟨a4, _⟩ := exchange_sub (Q := fun x => x = ⊤ ∨ Y x ∨ x = y) (old l4 (by simp)) b3
  refine ⟨?_, ?_⟩
  · rintro x (rfl | rfl | rfl | rfl | rfl)
    exacts [a0, a1, a2, a3, a4]
  · have c0 := @exchange_cov
    generalize hz0 : max l0 y = z0 at *
    generalize hz1 : max l1 z0 = z1 at *
    generalize hz2 : max l2 z1 = z2 at *
    generalize hz3 : max l3 z2 = z3 at *
    have t4 : ∀ x, x = l4 ∨ x = z3 ∨ l4 ≤ x → min l4 z3 ≤ x := by
      rintro x (rfl | rfl | hx)
      · exact min_le_left _ _
      · exact min_le_right _ _
      · exact (min_le_left _ _).trans hx
    have t3 : ∀ x, x = l3 ∨ x = z2 → x = min l3 z2 ∨ x = z3 := fun x hx => hz3 ▸ exchange_cov hx
    have t2 : ∀ x, x = l2 ∨ x = z1 → x = min l2 z1 ∨ x = z2 := fun x hx => hz2 ▸ exchange_cov hx
    have t1 : ∀ x, x = l1 ∨ x = z0 → x = min l1 z0 ∨ x = z1 := fun x hx => hz1 ▸ exchange_cov hx
    have t0 : ∀ x, x = l0 ∨ x = y → x = min l0 y ∨ x = z0 := fun x hx => hz0 ▸ exchange_cov hx
    clear a0 a1 a2 a3 a4 b0 b1 b2 b3 old c0
    have r4 : ∀ x, x = l4 ∨ x = z3 ∨ l4 ≤ x → (x = min l0 y ∨ x = min l1 z0 ∨ x = min l2 z1 ∨ x = min l3 z2 ∨ x = min l4 z3)
        ∨ min l4 z3 ≤ x := fun x hx => Or.inr (t4 x hx)
    have r3 : ∀ x, x = l3 ∨ x = z2 → (x = min l0 y ∨ x = min l1 z0 ∨ x = min l2 z1 ∨ x = min l3 z2 ∨ x = min l4 z3)
        ∨ min l4 z3 ≤ x := fun x hx =>
      (t3 x hx).elim (fun g => Or.inl (Or.inr (Or.inr (Or.inr (Or.inl g))))) fun g => r4 x (Or.inr (Or.inl g))
    have r2 : ∀ x, x = l2 ∨ x = z1 → (x = min l0 y ∨ x = min l1 z0 ∨ x = min l2 z1 ∨ x = min l3 z2 ∨ x = min l4 z3)
        ∨ min l4 z3 ≤ x := fun x hx =>
      (t2 x hx).elim (fun g => Or.inl (Or.inr (Or.inr (Or.inl g)))) fun g => r3 x (Or.inr g)
    have r1 : ∀ x, x = l1 ∨ x = z0 → (x = min l0 y ∨ x = min l1 z0 ∨ x = min l2 z1 ∨ x = min l3 z2 ∨ x = min l4 z3)
        ∨ min l4 z3 ≤ x := fun x hx =>
      (t1 x hx).elim (fun g => Or.inl (Or.inr (Or.inl g))) fun g => r2 x (Or.inr g)
    have r0 : ∀ x, x = l0 ∨ x = y → (x = min l0 y ∨ x = min l1 z0 ∨ x = min l2 z1 ∨ x = min l3 z2 ∨ x = min l4 z3)
        ∨ min l4 z3 ≤ x := fun x hx =>
      (t0 x hx).elim (fun g => Or.inl (Or.inl g)) fun g => r1 x (Or.inr g)
    rintro x (hx | hx)
    · rcases h.cov x hx with (g | g | g | g | g) | g
      · exact r0 x (Or.inl g)
      · exact r1 x (Or.inl g)
      · exact r2 x (Or.inl g)
      · exact r3 x (Or.inl g)
      · exact r4 x (Or.inl g)
      · exact r4 x (Or.inr (Or.inr g))
    · exact r0 x (Or.inr hx)

/-- Five values that have seen nothing are all `⊤`. -/
theorem Kept.start : Kept (fun _ => False) ⊤ ⊤ ⊤ ⊤ ⊤ :=
  ⟨fun x hx => Or.inl (by tauto), fun _ h => h.elim⟩

/-- What `Kept` says depends only on which values were seen. -/
theorem Kept.congr {Y Y' : EReal → Prop} {l0 l1 l2 l3 l4 : EReal} (h : Kept Y l0 l1 l2 l3 l4) (e : ∀ x, Y x ↔ Y' x) :
    Kept Y' l0 l1 l2 l3 l4 :=
  ⟨fun x hx => (h.sub x hx).imp_right (e x).mp, fun y hy => h.cov y ((e y).mpr hy)⟩

/-! ## A sorted row whose first entries are strictly apart -/

variable {N : ℕ} {D : Fin N → EReal} {σ : Fin N → Fin N}

/-- `σ` lists the row `D` in ascending order. -/
structure Sorted (D : Fin N → EReal) (σ : Fin N → Fin N) : Prop where
  surj : Function.Surjective σ
  mono : ∀ i j, i < j → D (σ i) ≤ D (σ j)

/-- The first `K + 1` gaps of the listed row are strict. -/
def Strict (D : Fin N → EReal) (σ : Fin N → Fin N) (K : ℕ) : Prop :=
  ∀ (k : ℕ) (hk : k ≤ K) (h : k + 1 < N), D (σ ⟨k, by omega⟩) < D (σ ⟨k + 1, h⟩)

/-- With the first `K + 1` gaps strict, the entries no greater than the `K`-th are the first `K + 1`. -/
theorem le_iff (hs : Sorted D σ) {K : ℕ} (hK : K + 1 < N) (hst : Strict D σ K) (k : ℕ) (hk : k ≤ K) (j : Fin N) :
    D (σ j) ≤ D (σ ⟨k, by omega⟩) ↔ j.val ≤ k := by
  constructor
  · intro h
    by_contra hj
    have h1 := hst k hk (by omega)
    have h2 : D (σ ⟨k + 1, by omega⟩) ≤ D (σ j) := by
      rcases Nat.lt_or_ge (k + 1) j.val with g | g
      · exact hs.mono _ _ (by simpa [Fin.lt_def] using g)
      · have : j = ⟨k + 1, by omega⟩ := Fin.ext (by simp; omega)
        rw [this]
    exact absurd (h1.trans_le h2) (not_lt.mpr h)
  · intro h
    rcases Nat.lt_or_ge j.val k with g | g
    · exact hs.mono _ _ (by simpa [Fin.lt_def] using g)
    · have : j = ⟨k, by omega⟩ := Fin.ext (by simp; omega)
      rw [this]

/-- Round `k + 1` finds the `k`-th entry of the listed row. -/
theorem iterate_sorted (hs : Sorted D σ) {K : ℕ} (hK : K + 1 < N) (hst : Strict D σ K) (hbot : ∀ i, ⊥ < D i) :
    ∀ (k : ℕ) (hk : k ≤ K), (above D)^[k + 1] ⊥ = D (σ ⟨k, by omega⟩) := by
  intro k
  induction k with
  | zero =>
    intro _
    show above D ⊥ = _
    refine le_antisymm (above_le _ _ _ (hbot _)) (le_above _ _ _ fun i _ => ?_)
    obtain ⟨j, rfl⟩ := hs.surj i
    rcases Nat.eq_zero_or_pos j.val with g | g
    · have : j = ⟨0, by omega⟩ := Fin.ext g
      rw [this]
    · exact hs.mono _ _ (by simpa [Fin.lt_def] using g)
  | succ k ih =>
    intro hk
    rw [Function.iterate_succ_apply', ih (by omega)]
    refine le_antisymm (above_le _ _ _ (hst k (by omega) (by omega))) (le_above _ _ _ fun i hi => ?_)
    obtain ⟨j, rfl⟩ := hs.surj i
    have hj : ¬ j.val ≤ k := fun g => absurd ((le_iff hs hK hst k (by omega) j).mpr g) (not_le.mpr hi)
    rcases Nat.lt_or_ge (k + 1) j.val with g | g
    · exact hs.mono _ _ (by simpa [Fin.lt_def] using g)
    · have : j = ⟨k + 1, by omega⟩ := Fin.ext (by simp; omega)
      rw [this]

/-- A listing reaches every position once. -/
theorem Sorted.inj (hs : Sorted D σ) : Function.Injective σ := Finite.injective_iff_surjective.mpr hs.surj

/-- The sum, over the whole row, of the entries of `f` where the distance is within the `K`-th is the sum of `f` over the
    first `K + 1` listed positions. -/
theorem sum_within (hs : Sorted D σ) {K : ℕ} (hK : K + 1 < N) (hst : Strict D σ K) (f : Fin N → EReal) :
    ∑ m, (if D m ≤ D (σ ⟨K, by omega⟩) then (1 : EReal) else 0) * f m
      = ∑ k : Fin (K + 1), f (σ ⟨k.val, by omega⟩) := by
  have hb : Function.Bijective σ := ⟨hs.inj, hs.surj⟩
  rw [← hb.sum_comp (fun m => (if D m ≤ D (σ ⟨K, by omega⟩) then (1 : EReal) else 0) * f m)]
  simp only [le_iff hs hK hst K le_rfl]
  have e : ∀ j : Fin N, (if j.val ≤ K then (1 : EReal) else 0) * f (σ j) = if j.val ≤ K then f (σ j) else 0 := by
    intro j; split <;> simp
  simp only [e]
  rw [← Finset.sum_filter]
  refine (Finset.sum_nbij (fun k : Fin (K + 1) => (⟨k.val, by omega⟩ : Fin N)) ?_ ?_ ?_ ?_).symm
  · intro k _; simp; omega
  · intro a _ b _ h; exact Fin.ext (by simpa using h)
  · intro j hj
    simp only [Finset.coe_filter, Finset.mem_univ, _root_.true_and, Set.mem_setOf_eq] at hj
    exact ⟨⟨j.val, by omega⟩, by simp, rfl⟩
  · intro k _; rfl

/-- A position whose entry is zero in a row of entries that are not negative is the first of the listing. -/
theorem first_eq (hs : Sorted D σ) {K : ℕ} (hK : K + 1 < N) (hst : Strict D σ K) (n : Fin N) (h0 : D n = 0)
    (hnn : ∀ i, 0 ≤ D i) : σ ⟨0, by omega⟩ = n := by
  obtain ⟨j, rfl⟩ := hs.surj n
  have : j.val ≤ 0 := (le_iff hs hK hst 0 (by omega) j).mp (by rw [h0]; exact hnn _)
  have : j = ⟨0, by omega⟩ := Fin.ext (by simp; omega)
  rw [this]

end Cert.Select
-- ==== Proof.Consts.lean ====
/- The constants of the three programs over the extended reals, and the leaky rectifier. -/
module

public import Idealize.ShloMosaic.Lib.Pointwise

@[expose] public section

noncomputable section

namespace Cert.Consts

open Idealize.ShloMosaic

/-- The pattern of 2. -/
theorem two : Ideal.ofBits .f32 0x40000000#32 = 2 := by
  rw [show (2 : EReal) = ((2 : ℝ) : EReal) by norm_cast]
  simp [Ideal.ofBits, Ideal.ieee, -EReal.coe_mul]; norm_num

/-- The pattern of 20. -/
theorem twenty : Ideal.ofBits .f32 0x41A00000#32 = ((20 : ℝ) : EReal) := by
  simp [Ideal.ofBits, Ideal.ieee, -EReal.coe_mul]; norm_num

/-- The pattern of 21. -/
theorem twentyone : Ideal.ofBits .f32 0x41A80000#32 = ((21 : ℝ) : EReal) := by
  simp [Ideal.ofBits, Ideal.ieee, -EReal.coe_mul]; norm_num

/-- The pattern of the largest value. -/
theorem inf : Ideal.ofBits .f32 0x7F800000#32 = ⊤ := by
  simp [Ideal.ofBits, Ideal.ieee]

/-- The pattern of the smallest value. -/
theorem neg_inf : Ideal.ofBits .f32 0xFF800000#32 = ⊥ := by
  simp [Ideal.ofBits, Ideal.ieee]

/-- The slope of the leaky rectifier. -/
def slope : EReal := Ideal.ofBits .f32 0x3C23D70A#32

/-- The slope is a real number. -/
theorem slope_real : ∃ r : ℝ, slope = (r : EReal) := by
  refine ⟨10737418 / 1073741824, ?_⟩
  unfold slope
  simp [Ideal.ofBits, Ideal.ieee, -EReal.coe_mul]; norm_num

/-- The leaky rectifier. -/
def leaky (x : EReal) : EReal := if 0 < x then x else slope * x

/-- The test may as well let zero through. -/
theorem leaky_ge (x : EReal) : (if 0 ≤ x then x else slope * x) = leaky x := by
  unfold leaky
  rcases lt_trichotomy 0 x with h | h | h
  · rw [if_pos h, if_pos h.le]
  · subst h; simp
  · rw [if_neg (not_lt.mpr h.le), if_neg (not_le.mpr h)]

/-- A real number's leaky rectifier is a real number. -/
theorem leaky_real {x : EReal} (h : ∃ r : ℝ, x = (r : EReal)) : ∃ r : ℝ, leaky x = (r : EReal) := by
  obtain ⟨r, rfl⟩ := h
  obtain ⟨s, hs⟩ := slope_real
  unfold leaky
  split
  · exact ⟨r, rfl⟩
  · exact ⟨s * r, by rw [hs, EReal.coe_mul]⟩

end Cert.Consts
-- ==== Proof.KVal.lean ====
/- The kernel's pieces read at one entry, over the extended reals. -/
module

public import proofs.«01_k».proof.Proof.Triple
public import proofs.«01_k».proof.Proof.Select
public import proofs.«01_k».proof.Proof.Consts
public import Idealize.ShloMosaic.Lib.Pointwise

@[expose] public section

set_option maxRecDepth 16384
set_option synthInstance.maxSize 4096

noncomputable section

namespace Cert.KernelIdeal.Body

open Idealize.ShloMosaic Idealize.SL.Sem
open Facts₀ Facts
open Cert.Select Cert.Consts

variable [Facts]

/-- The constant `far` is the largest value. -/
theorem far_ideal : (Named.named κ "far" 0x7F61B1E6#32 : Ideal .f32) = (⊤ : EReal) :=
  IdealRules.named_const.ideal_named_scalar _ _ _ _ rfl

/-- The constant `near` is the smallest value. -/
theorem near_ideal : (Named.named κ "near" 0xFF61B1E6#32 : Ideal .f32) = (⊥ : EReal) :=
  IdealRules.named_const.ideal_named_scalar _ _ _ _ rfl

/-- The constant `mean` is one twenty-first. -/
theorem mean_ideal : (Named.named κ "mean" 0x3D430C31#32 : Ideal .f32) = (((21 : ℝ)⁻¹ : ℝ) : EReal) :=
  IdealRules.named_const.ideal_named_scalar _ _ _ _ rfl

/-- A distance: the two squared lengths less twice the product. -/
theorem dist_apply (v0 : FVec Ideal S1x2048x3 .f32) (v2 : FVec Ideal S1x3x4096 .f32) (n : Fin 2048) (m : Fin 4096) :
    dist v0 v2 (ix2 n m) = (∑ k : Fin 3, v0 (ix3 0 n k) * v0 (ix3 0 n k)) + (∑ k : Fin 3, v2 (ix3 0 k m) * v2 (ix3 0 k m))
      - 2 * ∑ k : Fin 3, v0 (ix3 0 n k) * v2 (ix3 0 k m) := by
  pointwise [dist]
  rw [two]

/-- A minimum taken one entry after another from the largest value is the infimum. -/
theorem fold_min {ι : Type} [Fintype ι] (f : ι → EReal) : Finset.fold min ⊤ f Finset.univ = Finset.univ.inf f := rfl

/-- One round on the distances, at a row. -/
theorem nextD_apply (D : FVec Ideal S2048x4096 .f32) (t : FVec Ideal S2048x1 .f32) (n : Fin 2048) :
    nextD D t (ix2 n 0) = above (fun m : Fin 4096 => D (ix2 n m)) (t (ix2 n 0)) := by
  pointwise [nextD]
  rw [inf, far_ideal]
  rfl

/-- One round on the levels, at a row. -/
theorem nextP_apply (P : FVec Ideal S2048x640 .f32) (t : FVec Ideal S2048x1 .f32) (n : Fin 2048) :
    nextP P t (ix2 n 0) = above (fun m : Fin 640 => P (ix2 n m)) (t (ix2 n 0)) := by
  pointwise [nextP]
  rw [inf, far_ideal]
  rfl

/-- Any number of rounds on the distances, at a row. -/
theorem iterD_apply (D : FVec Ideal S2048x4096 .f32) (n : Fin 2048) (k : ℕ) :
    ((nextD D)^[k] near : FVec Ideal S2048x1 .f32) (ix2 n 0) = (above fun m : Fin 4096 => D (ix2 n m))^[k] ⊥ := by
  induction k with
  | zero => exact near_ideal
  | succ k ih => rw [Function.iterate_succ_apply', Function.iterate_succ_apply', nextD_apply, ih]

/-- Any number of rounds on the levels, at a row. -/
theorem iterP_apply (P : FVec Ideal S2048x640 .f32) (n : Fin 2048) (k : ℕ) :
    ((nextP P)^[k] near : FVec Ideal S2048x1 .f32) (ix2 n 0) = (above fun m : Fin 640 => P (ix2 n m))^[k] ⊥ := by
  induction k with
  | zero => exact near_ideal
  | succ k ih => rw [Function.iterate_succ_apply', Function.iterate_succ_apply', nextP_apply, ih]

/-- A bit widened and compared with zero is the bit. -/
theorem widened (b : Bool) : Scalar.cmpi .ne (Scalar.extui (BitVec.ofBool b) : BitVec 32) 0#32 = BitVec.ofBool b := by
  cases b <;> decide

/-- The test passes only where no deepest level is below its row's threshold. -/
theorem overflow_apply (q : FVec Ideal S2048x128 .f32) (t : FVec Ideal S2048x1 .f32) (h : overflow q t ≠ 1#1)
    (n : Fin 2048) (l : Fin 128) : t (ix2 n 0) ≤ q (ix2 n l) := by
  by_contra hc
  apply h
  pointwise [overflow]
  rw [neg_inf]
  refine (widened _).trans ?_
  rw [decide_eq_true ((Finset.lt_fold_max _).mpr (Or.inr ⟨(n, l), Finset.mem_univ _, ?_⟩))]
  · rfl
  · rw [if_pos (not_le.mp hc)]; exact zero_lt_one

/-- The mask at an entry. -/
theorem within_apply (D : FVec Ideal S2048x4096 .f32) (t : FVec Ideal S2048x1 .f32) (n : Fin 2048) (m : Fin 4096) :
    within D t (ix2 n m) = if D (ix2 n m) ≤ t (ix2 n 0) then 1 else 0 := by
  pointwise [within]
  by_cases h : D (ix2 n m) ≤ t (ix2 n 0)
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

/-- The block of results at an entry. -/
theorem blockOut_apply (A : FVec Ideal S2048x4096 .f32) (f : FVec Ideal S4096x64 .f32) (r : FVec Ideal S1x2048x64 .f32)
    (w1 w2 : FVec Ideal S64x64 .f32) (b1 b2 : FVec Ideal S1x64 .f32) (n : Fin 2048) (o : Fin 64) :
    blockOut A f r w1 w2 b1 b2 (ix3 0 n o)
      = (((∑ c : Fin 64, leaky (r (ix3 0 n c)) * w1 (ix2 o c))
          + ∑ c : Fin 64, ((∑ m : Fin 4096, A (ix2 n m) * leaky (f (ix2 m c))) - leaky (r (ix3 0 n c))) * w2 (ix2 o c))
          + (b1 (ix2 0 o) + ((20 : ℝ) : EReal) * b2 (ix2 0 o))) * (((21 : ℝ)⁻¹ : ℝ) : EReal) + r (ix3 0 n o) := by
  pointwise [blockOut]
  rw [twenty, mean_ideal]
  rfl

/-- What the insertion of chunks leaves at an entry: of the distances seen in its lane, the five kept values. -/
theorem levAfter_kept (D : FVec Ideal S2048x4096 .f32) (q : Nat) (hq : q < 32) (r : Fin 64) (l : Fin 128) :
    ∀ (n c : Nat) (h : c + n ≤ 32) (v : Lev Ideal),
      Kept (fun x => ∃ (c' : Nat) (_ : c' < c) (_ : c' < 32), x = D (ix2 ⟨64 * q + r.val, by omega⟩ ⟨128 * c' + l.val, by omega⟩))
        (v.l0 (ix2 r l)) (v.l1 (ix2 r l)) (v.l2 (ix2 r l)) (v.l3 (ix2 r l)) (v.l4 (ix2 r l)) →
      ∀ w, w = levAfter D q hq c n h v →
      Kept (fun x => ∃ (c' : Nat) (_ : c' < c + n) (_ : c' < 32), x = D (ix2 ⟨64 * q + r.val, by omega⟩ ⟨128 * c' + l.val, by omega⟩))
        (w.l0 (ix2 r l)) (w.l1 (ix2 r l)) (w.l2 (ix2 r l)) (w.l3 (ix2 r l)) (w.l4 (ix2 r l)) := by
  intro n
  induction n with
  | zero => intro c h v hv w hw; subst hw; exact hv
  | succ n ih =>
    intro c h v hv w hw
    have e : VecWindow.window D (offD c q) S64x128.size (offD_inb c q (by omega) hq) (ix2 r l)
        = D (ix2 ⟨64 * q + r.val, by omega⟩ ⟨128 * c + l.val, by omega⟩) := by
      show D _ = D _
      congr 1
      funext a
      apply Fin.ext
      match a with
      | ⟨0, _⟩ =>
        show (Scalar.indexCast (Scalar.muli (BitVec.ofNat 32 q) 64#32)).toNat + 1 * r.val = 64 * q + r.val
        rw [row_eq q hq]; omega
      | ⟨1, _⟩ => show 128 * c + 1 * l.val = 128 * c + l.val; omega
    have := ih (c + 1) (by omega)
      (v.ins (VecWindow.window D (offD c q) S64x128.size (offD_inb c q (by omega) hq))) ?_ w hw
    · exact this.congr fun x => by rw [show c + 1 + n = c + (n + 1) by omega]
    · have k := hv.ins (D (ix2 ⟨64 * q + r.val, by omega⟩ ⟨128 * c + l.val, by omega⟩))
      rw [← e] at k
      refine Kept.congr (l0 := _) (l1 := _) (l2 := _) (l3 := _) (l4 := _) k fun x => ?_
      constructor
      · rintro (⟨c', h1, h2, hx⟩ | hx)
        · exact ⟨c', by omega, h2, hx⟩
        · exact ⟨c, by omega, by omega, by rw [hx, e]⟩
      · rintro ⟨c', h1, h2, hx⟩
        rcases Nat.lt_or_ge c' c with g | g
        · exact Or.inl ⟨c', g, h2, hx⟩
        · obtain rfl : c' = c := by omega
          exact Or.inr (by rw [hx, e])

/-- The five kept values of a lane of a row. -/
theorem levels_kept (D : FVec Ideal S2048x4096 .f32) (n : Fin 2048) (l : Fin 128) :
    Kept (fun x => ∃ c' : Fin 32, x = D (ix2 n ⟨128 * c'.val + l.val, by omega⟩))
      (levels D (ix2 n ⟨l.val, by omega⟩)) (levels D (ix2 n ⟨128 + l.val, by omega⟩))
      (levels D (ix2 n ⟨256 + l.val, by omega⟩)) (levels D (ix2 n ⟨384 + l.val, by omega⟩))
      (levels D (ix2 n ⟨512 + l.val, by omega⟩)) := by
  have hq : n.val / 64 < 32 := by omega
  have k := levAfter_kept D (n.val / 64) hq ⟨n.val % 64, by omega⟩ l 32 0 (by omega) Lev.start
    (by
      have hs : ∀ x : EReal, (∃ (c' : Nat) (_ : c' < 0) (_ : c' < 32), x = D (ix2 ⟨64 * (n.val / 64) + n.val % 64, by omega⟩ ⟨128 * c' + l.val, by omega⟩)) ↔ False :=
        fun x => ⟨fun ⟨_, h, _⟩ => absurd h (by omega), False.elim⟩
      have e : ∀ y, (far (F := Ideal)) y = (⊤ : EReal) := fun y => far_ideal
      simp only [Lev.start, e]
      exact Kept.start.congr fun x => (hs x).symm)
    _ rfl
  have key : ∀ (j : Nat) (hj : j < 5) (hl : 128 * j + l.val < 640),
      levels D (ix2 n ⟨128 * j + l.val, hl⟩)
        = (levAfter D (n.val / 64) hq 0 32 (by omega) Lev.start).get j (ix2 ⟨n.val % 64, by omega⟩ l) := by
    intro j hj hl
    have h1 : (128 * j + l.val) / 128 = j := by omega
    have h2 : (⟨(128 * j + l.val) % 128, by omega⟩ : Fin 128) = l := Fin.ext (by show (128 * j + l.val) % 128 = l.val; omega)
    show (levAfter D (n.val / 64) _ 0 32 _ Lev.start).get ((128 * j + l.val) / 128) (ix2 ⟨n.val % 64, _⟩ ⟨(128 * j + l.val) % 128, _⟩) = _
    rw [h1, h2]
  have k0 := key 0 (by omega) (by omega)
  have k1 := key 1 (by omega) (by omega)
  have k2 := key 2 (by omega) (by omega)
  have k3 := key 3 (by omega) (by omega)
  have k4 := key 4 (by omega) (by omega)
  simp only [Nat.mul_zero, Nat.zero_add, Nat.mul_one, Nat.reduceMul] at k0 k1 k2 k3 k4
  rw [k0, k1, k2, k3, k4]
  refine Kept.congr k fun x => ?_
  have hn : (⟨64 * (n.val / 64) + n.val % 64, by omega⟩ : Fin 2048) = n := Fin.ext (by show 64 * (n.val / 64) + n.val % 64 = n.val; omega)
  constructor
  · rintro ⟨c', _, h2, hx⟩
    exact ⟨⟨c', h2⟩, by rw [hx, hn]⟩
  · rintro ⟨c', hx⟩
    exact ⟨c'.val, by have := c'.isLt; omega, c'.isLt, by rw [hx, hn]⟩

/-- The threshold of a row is the twenty-first round on its distances, whichever way it was found. -/
theorem thr_apply (D : FVec Ideal S2048x4096 .f32) (n : Fin 2048) :
    thr D (ix2 n 0) = (above fun m : Fin 4096 => D (ix2 n m))^[21] ⊥ := by
  unfold thr
  split
  · exact iterD_apply D n 21
  · rename_i h
    have hd : ∀ l : Fin 128, (above fun m : Fin 640 => levels D (ix2 n m))^[21] ⊥ ≤ levels D (ix2 n ⟨512 + l.val, by omega⟩) := by
      intro l
      have := overflow_apply _ _ h n l
      rw [show thrP (levels D) (ix2 n 0) = _ from iterP_apply (levels D) n 21] at this
      refine this.trans (le_of_eq ?_)
      show levels D _ = levels D _
      congr 1
      funext a
      apply Fin.ext
      match a with
      | ⟨0, _⟩ => show 0 + 1 * n.val = n.val; omega
      | ⟨1, _⟩ => show 512 + 1 * l.val = 512 + l.val; omega
    refine (iterP_apply (levels D) n 21).trans ?_
    refine iterate_eq (fun m : Fin 4096 => D (ix2 n m)) (fun m : Fin 640 => levels D (ix2 n m)) 21 ?_ ?_ 21 le_rfl
    · intro p
      have k := (levels_kept D n ⟨p.val % 128, by omega⟩).sub (levels D (ix2 n p)) ?_
      · exact k.imp_right fun ⟨c, hx⟩ => ⟨_, hx.symm⟩
      · have hp : p.val / 128 = 0 ∨ p.val / 128 = 1 ∨ p.val / 128 = 2 ∨ p.val / 128 = 3 ∨ p.val / 128 = 4 := by
          have := p.isLt; omega
        have e : ∀ (k : Nat) (hk : k < 640), p.val = k → levels D (ix2 n p) = levels D (ix2 n ⟨k, hk⟩) := by
          rintro k hk rfl; rfl
        rcases hp with g | g | g | g | g
        · exact Or.inl (e _ _ (by show p.val = p.val % 128; omega))
        · exact Or.inr (Or.inl (e _ _ (by show p.val = 128 + p.val % 128; omega)))
        · exact Or.inr (Or.inr (Or.inl (e _ _ (by show p.val = 256 + p.val % 128; omega))))
        · exact Or.inr (Or.inr (Or.inr (Or.inl (e _ _ (by show p.val = 384 + p.val % 128; omega)))))
        · exact Or.inr (Or.inr (Or.inr (Or.inr (e _ _ (by show p.val = 512 + p.val % 128; omega)))))
    · intro i
      have k := (levels_kept D n ⟨i.val % 128, by omega⟩).cov (D (ix2 n i))
        ⟨⟨i.val / 128, by omega⟩, by
          have : (⟨128 * (i.val / 128) + i.val % 128, by omega⟩ : Fin 4096) = i := Fin.ext (by show 128 * (i.val / 128) + i.val % 128 = i.val; omega)
          rw [this]⟩
      rcases k with (g | g | g | g | g) | g
      · exact ⟨_, Or.inl g.symm⟩
      · exact ⟨_, Or.inl g.symm⟩
      · exact ⟨_, Or.inl g.symm⟩
      · exact ⟨_, Or.inl g.symm⟩
      · exact ⟨_, Or.inl g.symm⟩
      · exact ⟨_, Or.inr ⟨hd ⟨i.val % 128, by omega⟩, g⟩⟩

end Cert.KernelIdeal.Body
-- ==== Proof.RVal.lean ====
/- The reference's result read at one entry, over the extended reals. -/
module

public import proofs.«01_k».proof.Proof.Gen.ReferenceIdeal.Run
public import proofs.«01_k».proof.Proof.Select
public import proofs.«01_k».proof.Proof.Consts
public import Idealize.ShloMosaic.Lib.Pointwise

@[expose] public section

set_option maxRecDepth 16384
set_option synthInstance.maxSize 4096

noncomputable section

namespace Cert.Rows

open Idealize.ShloMosaic

/-- The squared distance of points `n` and `m` of cloud `b`: the two squared lengths less twice the product. -/
def sq (X : (⟨3, ![4, 3, 4096]⟩ : Shape).Idx → EReal) (b : Fin 4) (n m : Fin 4096) : EReal :=
  (∑ k : Fin 3, X (ix3 b k n) * X (ix3 b k n)) + (∑ k : Fin 3, X (ix3 b k m) * X (ix3 b k m))
    - 2 * ∑ k : Fin 3, X (ix3 b k n) * X (ix3 b k m)

/-- The order in which the greatest entries of row `(b, n)` of `x` come. -/
def order (x : FVec Ideal ⟨3, ![4, 4096, 4096]⟩ .f32) (b : Fin 4) (n : Fin 4096) : Fin 4096 → Fin 4096 :=
  sortedFrom fun k k' => FloatOps.cmpfTotal .gt (x (ix3 b n k)) (x (ix3 b n k')) == 1#1

/-- Along the order the entries do not grow: their negatives are listed in ascending order. -/
theorem order_sorted (x : FVec Ideal ⟨3, ![4, 4096, 4096]⟩ .f32) (b : Fin 4) (n : Fin 4096) (D : Fin 4096 → EReal)
    (hD : ∀ m, x (ix3 b n m) = -D m) : Cert.Select.Sorted D (order x b n) := by
  have hc : ∀ k k' : Fin 4096, (FloatOps.cmpfTotal .gt (x (ix3 b n k)) (x (ix3 b n k')) == 1#1) = decide (D k < D k') := by
    intro k k'
    rw [hD, hD]
    show (BitVec.ofBool (decide (-D k' < -D k)) == 1#1) = _
    by_cases h : D k < D k'
    · rw [decide_eq_true (EReal.neg_lt_neg_iff.mpr h), decide_eq_true h]; rfl
    · rw [decide_eq_false (mt EReal.neg_lt_neg_iff.mp h), decide_eq_false h]; rfl
  refine ⟨sortedFrom_surjective _, fun i j hij => ?_⟩
  unfold order
  simp only [hc]
  have := sortedFrom_noInversion (n := 4096) (fun k k' => decide (D k < D k')) (fun k k' => decide (D k < D k'))
    (fun a c h => decide_eq_false (not_lt.mpr (of_decide_eq_true h).le)) (fun a c h => h)
    (fun a c e h h' => decide_eq_false (not_lt.mpr ((not_lt.mp (of_decide_eq_false h')).trans (not_lt.mp (of_decide_eq_false h)))))
    i j hij
  exact not_lt.mp (of_decide_eq_false this)

/-- An index moved along its last axis. -/
theorem along_last (J : (⟨3, ![4, 4096, 4096]⟩ : Shape).Idx) (b : Fin 4) (n : Fin 4096) (h0 : (J 0).val = b.val)
    (h1 : (J 1).val = n.val) (k : Fin 4096) :
    Shape.Idx.along (s := ⟨3, ![4, 4096, 4096]⟩) J (2 : Fin 3) k = ix3 b n k := by
  funext a
  match a with
  | ⟨0, _⟩ => exact Fin.ext h0
  | ⟨1, _⟩ => exact Fin.ext h1
  | ⟨2, _⟩ => rfl

/-- The sorted pair at an index, with the order of its row written out. -/
theorem topK_read {K : ℕ} (x : FVec Ideal ⟨3, ![4, 4096, 4096]⟩ .f32)
    (h : (⟨3, ![4, 4096, 4096]⟩ : Shape).Slices (fun _ => 0) ⟨3, ![4, 4096, K]⟩) (y : (⟨3, ![4, 4096, K]⟩ : Shape).Idx) :
    ∃ J : (⟨3, ![4, 4096, 4096]⟩ : Shape).Idx, (J 0).val = (y 0).val ∧ (J 1).val = (y 1).val ∧ (J 2).val = (y 2).val ∧
      (Host.topK ⟨3, ![4, 4096, K]⟩ 2 (FloatOps.cmpfTotal .gt) x h).1 y
        = x (J.along 2 (sortedFrom (fun k k' => FloatOps.cmpfTotal .gt (x (J.along 2 k)) (x (J.along 2 k')) == 1#1) (J 2)))
      ∧ (Host.topK ⟨3, ![4, 4096, K]⟩ 2 (FloatOps.cmpfTotal .gt) x h).2 y
        = BitVec.ofNat 32 ((J.along 2 (sortedFrom (fun k k' => FloatOps.cmpfTotal .gt (x (J.along 2 k)) (x (J.along 2 k')) == 1#1) (J 2))) 2).val := by
  refine ⟨fun a => ⟨0 + (y (a.cast h.1.symm)).val, Nat.lt_of_lt_of_le (Nat.add_lt_add_left (Fin.isLt _) _) (h.2 a)⟩, ?_, ?_, ?_, rfl, rfl⟩
  · exact Nat.zero_add _
  · exact Nat.zero_add _
  · exact Nat.zero_add _

/-- A row of the sorted pair: the entry at the place the order names, and that place as a word. -/
theorem topK_at {K : ℕ} (x : FVec Ideal ⟨3, ![4, 4096, 4096]⟩ .f32)
    (h : (⟨3, ![4, 4096, 4096]⟩ : Shape).Slices (fun _ => 0) ⟨3, ![4, 4096, K]⟩) (b : Fin 4) (n : Fin 4096) (j : Fin K)
    (hj : j.val < 4096) :
    (Host.topK ⟨3, ![4, 4096, K]⟩ 2 (FloatOps.cmpfTotal .gt) x h).1 (ix3 b n j) = x (ix3 b n (order x b n ⟨j.val, hj⟩))
    ∧ (Host.topK ⟨3, ![4, 4096, K]⟩ 2 (FloatOps.cmpfTotal .gt) x h).2 (ix3 b n j)
      = BitVec.ofNat 32 (order x b n ⟨j.val, hj⟩).val := by
  obtain ⟨J, h0, h1, h2, e1, e2⟩ := topK_read x h (ix3 b n j)
  have hJ := along_last J b n h0 h1
  have hJ2 : J 2 = (⟨j.val, hj⟩ : Fin 4096) := Fin.ext h2
  have ho : (sortedFrom fun k k' => FloatOps.cmpfTotal .gt (x (J.along 2 k)) (x (J.along 2 k')) == 1#1) (J 2) = order x b n ⟨j.val, hj⟩ := by
    unfold order
    rw [hJ2]
    have hR : (fun k k' : Fin 4096 => FloatOps.cmpfTotal .gt (x (J.along 2 k)) (x (J.along 2 k')) == 1#1)
        = fun k k' => FloatOps.cmpfTotal .gt (x (ix3 b n k)) (x (ix3 b n k')) == 1#1 := by
      funext k k'
      rw [hJ, hJ]
    exact congrFun (congrArg sortedFrom hR) _
  rw [e1, e2, ho, hJ]
  exact ⟨rfl, rfl⟩

end Cert.Rows

namespace Cert.ReferenceIdeal.Value

open Cert.ReferenceIdeal Cert.ReferenceIdeal.Gen Idealize.ShloMosaic Idealize.ShloMosaic.TcCoe Idealize.SL.Sem Idealize.ShloMosaic.StableHlo

/-- The negated squared distances. -/
def negd (X : FVec Ideal S4x3x4096 .f32) : FVec Ideal S4x4096x4096 .f32 :=
  have t : FVec Ideal S4x4096x3 .f32 := transpose S4x4096x3 [0, 2, 1] X transposes_S4x3x4096_S4x4096x3_0_2_1
  have s : FVec Ideal S4x4096 .f32 := Host.reduceAdd (mulf t t) (constant S_ .f32 0x00000000#32) reducesTo_S4x4096x3_S4x4096_d2 h_S_
  Host.negf (subf
    (addf
      (broadcastInDim S4x4096x4096 ![0, 1, 2] bcast_S4x4096x1_S4x4096x4096_0_1_2 (broadcastInDim S4x4096x1 ![0, 1] bcast_S4x4096_S4x4096x1_0_1 s))
      (broadcastInDim S4x4096x4096 ![0, 1, 2] bcast_S4x1x4096_S4x4096x4096_0_1_2 (broadcastInDim S4x1x4096 ![0, 2] bcast_S4x4096_S4x1x4096_0_2 s)))
    (mulf (broadcastInDim S4x4096x4096 ![] bcast_S_S4x4096x4096 (constant S_ .f32 0x40000000#32))
      (Host.dotGeneral dot_S4x4096x3_S4x4096x3_S4x4096x4096_2_2_1_1_0_0 none t t)))

/-- The positions of the twenty neighbours of every point, the point itself left out. -/
def nbrs (x : FVec Ideal S4x4096x4096 .f32) : IVec S4x4096x20 32 :=
  have i : IVec S4x4096x20 32 := extractStridedSlice S4x4096x20 ![0, 0, 1]
    (Host.topK S4x4096x21 2 (FloatOps.cmpfTotal .gt) x sliceFits_S4x4096x4096_S4x4096x21).2 slices_S4x4096x21_S4x4096x20_0_0_1
  select (cmpi .slt i (broadcastInDim S4x4096x20 ![] bcast_S_S4x4096x20 (constantI S_ 32 0#32)))
    (addi i (broadcastInDim S4x4096x20 ![] bcast_S_S4x4096x20 (constantI S_ 32 4096#32))) i

/-- The features after the leaky rectifier, points first. -/
def feats (P : FVec Ideal S4x64x4096 .f32) : FVec Ideal S4x4096x64 .f32 :=
  have t : FVec Ideal S4x4096x64 .f32 := transpose S4x4096x64 [0, 2, 1] P transposes_S4x64x4096_S4x4096x64_0_2_1
  select (cmpf .oge t (broadcastInDim S4x4096x64 ![] bcast_S_S4x4096x64 (constant S_ .f32 0x00000000#32))) t
    (mulf (broadcastInDim S4x4096x64 ![] bcast_S_S4x4096x64 (constant S_ .f32 0x3C23D70A#32)) t)

/-- The features of the neighbours. -/
def taken (f : FVec Ideal S4x4096x64 .f32) (i : IVec S4x4096x20 32) : FVec Ideal S4x4096x20x64 .f32 :=
  Host.gather gather_S4x4096x64_S4x4096x20x1_S4x4096x20x64_3_1_0_0_1_3_1164 f
    (broadcastInDim S4x4096x20x1 ![0, 1, 2] bcast_S4x4096x20_S4x4096x20x1_0_1_2 i)

/-- The result from the features and the neighbours' features. -/
def result (f : FVec Ideal S4x4096x64 .f32) (g : FVec Ideal S4x4096x20x64 .f32) (P : FVec Ideal S4x64x4096 .f32)
    (W1 : FVec Ideal S64x64 .f32) (b1 : FVec Ideal S64 .f32) (W2 : FVec Ideal S64x64 .f32) (b2 : FVec Ideal S64 .f32) :
    FVec Ideal S4x64x4096 .f32 :=
  addf (Host.divf (Host.reduceAdd (concatenate S4x64x21x4096 2 [⟨S4x64x1x4096,
      addf (transpose S4x64x1x4096 [0, 3, 1, 2] (Host.dotGeneral dot_S4x64x1x4096_S64x64_S4x1x4096x64_1_1_023_0_n_n none
          (broadcastInDim S4x64x1x4096 ![0, 1, 3] bcast_S4x64x4096_S4x64x1x4096_0_1_3
            (transpose S4x64x4096 [0, 2, 1] f transposes_S4x4096x64_S4x64x4096_0_2_1)) W1) transposes_S4x1x4096x64_S4x64x1x4096_0_3_1_2)
        (broadcastInDim S4x64x1x4096 ![0, 1, 2, 3] bcast_S1x64x1x1_S4x64x1x4096_0_1_2_3 (broadcastInDim S1x64x1x1 ![1] bcast_S64_S1x64x1x1_1 b1))⟩,
    ⟨S4x64x20x4096,
      addf (transpose S4x64x20x4096 [0, 3, 1, 2] (Host.dotGeneral dot_S4x64x20x4096_S64x64_S4x20x4096x64_1_1_023_0_n_n none
          (transpose S4x64x20x4096 [0, 3, 2, 1] g transposes_S4x4096x20x64_S4x64x20x4096_0_3_2_1) W2) transposes_S4x20x4096x64_S4x64x20x4096_0_3_1_2)
        (broadcastInDim S4x64x20x4096 ![0, 1, 2, 3] bcast_S1x64x1x1_S4x64x20x4096_0_1_2_3 (broadcastInDim S1x64x1x1 ![1] bcast_S64_S1x64x1x1_1 b2))⟩]
      concatenates_S4x64x1x4096_S4x64x20x4096_S4x64x21x4096_d2) (constant S_ .f32 0x00000000#32) reducesTo_S4x64x21x4096_S4x64x4096_d2 h_S_)
    (broadcastInDim S4x64x4096 ![] bcast_S_S4x64x4096 (constant S_ .f32 0x41A80000#32))) P

set_option maxHeartbeats 1000000 in
/-- The reference's result is these parts put together. -/
theorem res_eq (m : (ℓ : Loc nD τ sig) → Buf (Elt Ideal) ℓ) (c : Dev nD) :
    res_main_v40 m c = result (feats (m ((c.tc : Thread nD τ).loc main_arg1)))
      (taken (feats (m ((c.tc : Thread nD τ).loc main_arg1))) (nbrs (negd (m ((c.tc : Thread nD τ).loc main_arg0)))))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := by
  unfold res_main_v40
  rfl

/-- A negated distance. -/
theorem negd_apply (X : FVec Ideal S4x3x4096 .f32) (b : Fin 4) (n m : Fin 4096) :
    negd X (ix3 b n m) = - Cert.Rows.sq X b n m := by
  pointwise [negd, Cert.Rows.sq]
  rw [Cert.Consts.two]

/-- A feature after the leaky rectifier. -/
theorem feats_apply (P : FVec Ideal S4x64x4096 .f32) (b : Fin 4) (n : Fin 4096) (c : Fin 64) :
    feats P (ix3 b n c) = Cert.Consts.leaky (P (ix3 b c n)) := by
  pointwise [feats]
  exact Cert.Consts.leaky_ge _

/-- The word of a position below 4096 is not negative, and read as an integer it is the position. -/
theorem word_toInt (j : Fin 4096) : (BitVec.ofNat 32 j.val).toInt = (j.val : ℤ) := by
  have := j.isLt
  rw [BitVec.toInt_eq_toNat_cond, BitVec.toNat_ofNat]
  have : j.val % 2 ^ 32 = j.val := Nat.mod_eq_of_lt (by omega)
  rw [this, if_pos (by omega)]

/-- The position of the `k`-th neighbour: the order's entry after the first, no correction of its sign being needed. -/
theorem nbrs_apply (x : FVec Ideal S4x4096x4096 .f32) (b : Fin 4) (n : Fin 4096) (k : Fin 20) :
    nbrs x (ix3 b n k) = BitVec.ofNat 32 (Cert.Rows.order x b n ⟨k.val + 1, by omega⟩).val := by
  pointwise [nbrs]
  have h : ∀ hk, (Host.topK S4x4096x21 2 (FloatOps.cmpfTotal .gt) x sliceFits_S4x4096x4096_S4x4096x21).2 (ix3 b n ⟨1 + k.val, hk⟩)
      = BitVec.ofNat 32 (Cert.Rows.order x b n ⟨k.val + 1, by omega⟩).val := by
    intro hk
    rw [(Cert.Rows.topK_at x sliceFits_S4x4096x4096_S4x4096x21 b n ⟨1 + k.val, hk⟩ (by show 1 + k.val < 4096; omega)).2]
    have : (⟨1 + k.val, by omega⟩ : Fin 4096) = ⟨k.val + 1, by omega⟩ := Fin.ext (by show 1 + k.val = k.val + 1; omega)
    exact congrArg (fun q : Fin 4096 => BitVec.ofNat 32 (Cert.Rows.order x b n q).val) this
  rw [h]
  generalize Cert.Rows.order x b n ⟨k.val + 1, by omega⟩ = j
  have hneg : IntOp.cmpi .slt (BitVec.ofNat 32 j.val) 0#32 = 0#1 := by
    show BitVec.ofBool (BitVec.slt (BitVec.ofNat 32 j.val) 0#32) = 0#1
    rw [BitVec.slt, word_toInt j, decide_eq_false (by simp)]
    rfl
  rw [hneg]
  rfl

/-- An index's coordinate on the axis a list names at a place. -/
theorem coord_at {s : Shape} (J : s.Idx) (L : List (Fin s.rank)) (i : ℕ) (h : i < L.length) (q : Fin s.rank) (e : L[i]? = some q) :
    (J L[i]).val = (J q).val := by
  obtain ⟨h', rfl⟩ := List.getElem?_eq_some_iff.mp e
  rfl

/-- The neighbour's feature is read at its position. -/
theorem taken_apply (f : FVec Ideal S4x4096x64 .f32) (i : IVec S4x4096x20 32) (b : Fin 4) (n : Fin 4096) (k : Fin 20) (c : Fin 64)
    (j : Fin 4096) (hj : i (ix3 b n k) = BitVec.ofNat 32 j.val) :
    taken f i (ix4 b n k c) = f (ix3 b j c) := by
  unfold taken Host.gather
  generalize hd : gather_S4x4096x64_S4x4096x20x1_S4x4096x20x64_3_1_0_0_1_3_1164 = d
  have hob : d.operandBatchingDims = [0] := by rw [← hd]; rfl
  have hsb : d.startIndicesBatchingDims = [0] := by rw [← hd]; rfl
  have hco : d.collapsedSliceDims = [1] := by rw [← hd]; rfl
  have hof : d.offsetDims = [3] := by rw [← hd]; rfl
  have hsi : d.startIndexMap = [1] := by rw [← hd]; rfl
  have hiv : d.indexVectorDim = 3 := by rw [← hd]; rfl
  have hk : d.sKept = [2] := by rw [← hd]; decide
  have hsk : d.siKept = [0, 1, 2] := by rw [← hd]; decide
  have hbd : d.batchDims = [0, 1, 2] := by rw [← hd]; decide
  have hsl : d.sliceSizes 1 = 1 := by rw [← hd]; rfl
  have hsc : ∀ (q : Fin 4) (hq : q ∈ d.siKept) (hl : q.val < 3),
      (d.siCoord (ix4 b n k c) q hq).val = ((ix4 b n k c : S4x4096x20x64.Idx) q).val := by
    intro q hq hl
    unfold GatherDims.siCoord
    simp only [Fin.val_cast]
    refine coord_at (s := S4x4096x20x64) _ _ _ _ q ?_
    rw [hbd, hsk]
    match q, hl with
    | ⟨0, _⟩, _ => rfl
    | ⟨1, _⟩, _ => rfl
    | ⟨2, _⟩, _ => rfl
  congr 1
  funext a
  apply Fin.ext
  match a with
  | ⟨0, _⟩ =>
    show d.start _ _ (0 : Fin 3) + d.batchCoord _ (0 : Fin 3) + d.offCoord _ (0 : Fin 3) = b.val
    rw [d.start_batching _ _ _ (by rw [hob]; simp), d.offCoord_eq_zero _ _ (by rw [hk]; decide)]
    unfold GatherDims.batchCoord
    rw [dif_pos (by rw [hob]; simp)]
    have hq : ∀ (q : Fin 4) (hq : q ∈ d.siKept), q = 0 → (d.siCoord (ix4 b n k c) q hq).val = b.val := by
      rintro q hq rfl
      exact hsc 0 hq (by decide)
    rw [Nat.zero_add, Nat.add_zero]
    refine hq _ _ ?_
    have h0 : d.startIndicesBatchingDims[d.operandBatchingDims.idxOf (0 : Fin 3)]? = some (0 : Fin 4) := by rw [hsb, hob]; rfl
    obtain ⟨_, h⟩ := List.getElem?_eq_some_iff.mp h0
    exact h
  | ⟨1, _⟩ =>
    show d.start _ _ (1 : Fin 3) + d.batchCoord _ (1 : Fin 3) + d.offCoord _ (1 : Fin 3) = j.val
    rw [d.batchCoord_eq_zero _ _ (by rw [hob]; decide), d.offCoord_eq_zero _ _ (by rw [hk]; decide)]
    unfold GatherDims.start
    rw [dif_pos (by rw [hsi]; simp), hsl]
    have hr : ∀ (q : Fin d.startIndexMap.length),
        broadcastInDim S4x4096x20x1 ![0, 1, 2] bcast_S4x4096x20_S4x4096x20x1_0_1_2 i (d.siIdx (ix4 b n k c) q) = i (ix3 b n k) := by
      intro q
      have : d.siIdx (ix4 b n k c) q = ix4 b n k 0 := by
        funext e
        apply Fin.ext
        unfold GatherDims.siIdx
        match e with
        | ⟨0, _⟩ => rw [dif_neg (by rw [hiv]; simp)]; exact hsc 0 _ (by decide)
        | ⟨1, _⟩ => rw [dif_neg (by rw [hiv]; simp)]; exact hsc 1 _ (by decide)
        | ⟨2, _⟩ => rw [dif_neg (by rw [hiv]; simp)]; exact hsc 2 _ (by decide)
        | ⟨3, _⟩ =>
          rw [dif_pos (by rw [hiv])]
          have := q.isLt
          have hl : d.startIndexMap.length = 1 := by rw [hsi]; rfl
          show q.val = 0
          omega
      rw [this]
      pointwise
    rw [hr, hj, word_toInt j]
    have := j.isLt
    show min (j.val : ℤ).toNat (4096 - 1) + 0 + 0 = j.val
    omega
  | ⟨2, _⟩ =>
    show d.start _ _ (2 : Fin 3) + d.batchCoord _ (2 : Fin 3) + d.offCoord _ (2 : Fin 3) = c.val
    rw [d.batchCoord_eq_zero _ _ (by rw [hob]; decide)]
    unfold GatherDims.start GatherDims.offCoord
    rw [dif_neg (by rw [hsi]; decide), dif_pos (by rw [hk]; simp), Nat.zero_add]
    refine coord_at (s := S4x4096x20x64) _ _ _ _ (3 : Fin 4) ?_
    rw [hof, hk]
    rfl

/-- The result at an entry: the mean over the point and its twenty neighbours, and the input added. -/
theorem result_apply (f : FVec Ideal S4x4096x64 .f32) (g : FVec Ideal S4x4096x20x64 .f32) (P : FVec Ideal S4x64x4096 .f32)
    (W1 : FVec Ideal S64x64 .f32) (b1 : FVec Ideal S64 .f32) (W2 : FVec Ideal S64x64 .f32) (b2 : FVec Ideal S64 .f32)
    (b : Fin 4) (o : Fin 64) (n : Fin 4096) :
    result f g P W1 b1 W2 b2 (ix3 b o n)
      = ((∑ c : Fin 64, f (ix3 b n c) * W1 (ix2 o c) + b1 (ix1 o))
          + ∑ k : Fin 20, (∑ c : Fin 64, g (ix4 b n k c) * W2 (ix2 o c) + b2 (ix1 o))) * (((21 : ℝ)⁻¹ : ℝ) : EReal)
        + P (ix3 b o n) := by
  pointwise [result]
  rw [Cert.Consts.twentyone, Ideal.div_coe (by norm_num), one_div, Fin.sum_univ_one]

end Cert.ReferenceIdeal.Value
-- ==== Proof.Entry.lean ====
/- One entry of the result, as the kernel computes it and as the reference does, and that the two are the same number when
   the points, the features and the second weight are real and the nearest distances are distinct. -/
module

public import proofs.«01_k».proof.Proof.RVal

@[expose] public section

noncomputable section

namespace Cert.Entry

open Idealize.ShloMosaic Cert.Consts Cert.Select Cert.Rows

variable (X : (⟨3, ![4, 3, 4096]⟩ : Shape).Idx → EReal) (P : (⟨3, ![4, 64, 4096]⟩ : Shape).Idx → EReal)
  (W1 : (⟨2, ![64, 64]⟩ : Shape).Idx → EReal) (b1 : (⟨1, ![64]⟩ : Shape).Idx → EReal)
  (W2 : (⟨2, ![64, 64]⟩ : Shape).Idx → EReal) (b2 : (⟨1, ![64]⟩ : Shape).Idx → EReal)
  (b : Fin 4) (o : Fin 64) (n : Fin 4096)

/-- The kernel's: the features of every point within the 21st smallest distance are summed, the point's own taken off, and
    the sum goes through the second weight once; the bias is counted 20 times. -/
def kernel : EReal :=
  (((∑ c : Fin 64, leaky (P (ix3 b c n)) * W1 (ix2 o c))
      + ∑ c : Fin 64, ((∑ m : Fin 4096, (if sq X b n m ≤ (above (sq X b n))^[21] ⊥ then (1 : EReal) else 0) * leaky (P (ix3 b c m)))
          - leaky (P (ix3 b c n))) * W2 (ix2 o c))
    + (b1 (ix1 o) + ((20 : ℝ) : EReal) * b2 (ix1 o))) * (((21 : ℝ)⁻¹ : ℝ) : EReal) + P (ix3 b o n)

/-- The reference's: each of the 20 neighbours' features goes through the second weight and the bias, and these are summed. -/
def reference (σ : Fin 4096 → Fin 4096) : EReal :=
  ((∑ c : Fin 64, leaky (P (ix3 b c n)) * W1 (ix2 o c) + b1 (ix1 o))
    + ∑ k : Fin 20, (∑ c : Fin 64, leaky (P (ix3 b c (σ ⟨k.val + 1, by omega⟩))) * W2 (ix2 o c) + b2 (ix1 o)))
    * (((21 : ℝ)⁻¹ : ℝ) : EReal) + P (ix3 b o n)

/-- A finite sum of real numbers is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Twenty copies of any extended real. -/
theorem twenty_copies (x : EReal) : ∑ _k : Fin 20, x = ((20 : ℝ) : EReal) * x := by
  rw [Finset.sum_const, Finset.card_univ, Fintype.card_fin]
  induction x with
  | bot =>
    rw [EReal.coe_mul_bot_of_pos (by norm_num)]
    simp [succ_nsmul]
  | coe r =>
    rw [← EReal.coe_nsmul, ← EReal.coe_mul]
    simp
  | top =>
    rw [EReal.coe_mul_top_of_pos (by norm_num)]
    simp [succ_nsmul]

/-- Between real points the squared distance is a real number, not negative. -/
theorem sq_real (hX : ∀ j, ∃ r : ℝ, X j = (r : EReal)) (m : Fin 4096) : ∃ r : ℝ, 0 ≤ r ∧ sq X b n m = (r : EReal) := by
  choose x hx using hX
  refine ⟨∑ k : Fin 3, (x (ix3 b k n) - x (ix3 b k m)) ^ 2, Finset.sum_nonneg fun k _ => sq_nonneg _, ?_⟩
  unfold Cert.Rows.sq
  simp only [hx, ← EReal.coe_mul, coe_sum]
  rw [show (2 : EReal) = ((2 : ℝ) : EReal) from rfl, ← EReal.coe_mul, ← EReal.coe_add, ← EReal.coe_sub]
  congr 1
  simp only [Fin.sum_univ_three]
  ring

/-- A real point's squared distance from itself is zero. -/
theorem sq_self (hX : ∀ j, ∃ r : ℝ, X j = (r : EReal)) : sq X b n n = 0 := by
  choose x hx using hX
  unfold Cert.Rows.sq
  simp only [hx, ← EReal.coe_mul, coe_sum]
  rw [show (2 : EReal) = ((2 : ℝ) : EReal) from rfl, ← EReal.coe_mul, ← EReal.coe_add, ← EReal.coe_sub]
  rw [← EReal.coe_zero]
  congr 1
  ring

/-- The two entries are the same. -/
theorem agree (hX : ∀ j, ∃ r : ℝ, X j = (r : EReal)) (hP : ∀ j, ∃ r : ℝ, P j = (r : EReal))
    (hW : ∀ j, ∃ r : ℝ, W2 j = (r : EReal)) (σ : Fin 4096 → Fin 4096) (hs : Sorted (sq X b n) σ)
    (hst : Strict (sq X b n) σ 20) :
    kernel X P W1 b1 W2 b2 b o n = reference P W1 b1 W2 b2 b o n σ := by
  have hK : 20 + 1 < 4096 := by norm_num
  have hthr := iterate_sorted hs hK hst (fun i => by
    obtain ⟨r, _, e⟩ := sq_real X b n hX i
    rw [e]; exact EReal.bot_lt_coe r) 20 (le_refl _)
  have h0 := first_eq hs hK hst n (sq_self X b n hX) (fun i => by
    obtain ⟨r, h, e⟩ := sq_real X b n hX i
    rw [e]; exact EReal.coe_nonneg.mpr h)
  have hnb : ∀ c : Fin 64, (∑ m : Fin 4096, (if sq X b n m ≤ (above (sq X b n))^[21] ⊥ then (1 : EReal) else 0) * leaky (P (ix3 b c m)))
      - leaky (P (ix3 b c n)) = ∑ k : Fin 20, leaky (P (ix3 b c (σ ⟨k.val + 1, by omega⟩))) := by
    intro c
    rw [hthr, sum_within hs hK hst fun m => leaky (P (ix3 b c m)), Fin.sum_univ_succ]
    rw [show σ ⟨(0 : Fin 21).val, by omega⟩ = n from h0]
    choose g hg using fun m => leaky_real (hP (ix3 b c m))
    simp only [hg, coe_sum, Fin.val_succ]
    rw [← EReal.coe_add, ← EReal.coe_sub, add_sub_cancel_left]
  have hmid : ∑ c : Fin 64, ((∑ m : Fin 4096, (if sq X b n m ≤ (above (sq X b n))^[21] ⊥ then (1 : EReal) else 0) * leaky (P (ix3 b c m)))
      - leaky (P (ix3 b c n))) * W2 (ix2 o c)
      = ∑ k : Fin 20, ∑ c : Fin 64, leaky (P (ix3 b c (σ ⟨k.val + 1, by omega⟩))) * W2 (ix2 o c) := by
    choose g hg using fun j => leaky_real (hP j)
    choose w hw using hW
    simp only [hnb]
    simp only [hg, hw, coe_sum, ← EReal.coe_mul]
    congr 1
    simp only [Finset.sum_mul]
    exact Finset.sum_comm
  unfold kernel reference
  rw [hmid, Finset.sum_add_distrib, twenty_copies, add_add_add_comm]

end Cert.Entry

end
-- ==== Proof.KArr.lean ====
/- What the kernel leaves in its result array, entry by entry: the blocks of the windows read off the arguments, the block
   each grid point writes, the result array made of the blocks, and the transpose after it. -/
module

public import proofs.«01_k».proof.Proof.Run
public import proofs.«01_k».proof.Proof.KVal
public import proofs.«01_k».proof.Proof.Entry
public import Idealize.ShloMosaic.Lib.Pipeline.ValueKit
public import Idealize.ShloMosaic.Lib.StableHlo.ReadAt

@[expose] public section

set_option maxRecDepth 16384
set_option synthInstance.maxSize 4096

noncomputable section

namespace Cert.KernelIdeal.Run

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- Where each window's block lies at a grid point. -/
theorem idx (t : Fin cfg0.N) :
    win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![0, 0]
    ∧ win0_4.index t = ![0, 0]
    ∧ win0_5.index t = ![0, 0]
    ∧ win0_6.index t = ![0, 0]
    ∧ win0_7.index t = ![(grid0.coords t 0).val, (grid0.coords t 1).val, 0]
    ∧ k0_off38 (grid0.coords t) = ![0, (grid0.coords t 1).val * 2048, 0] := by
  revert t; decide +kernel

/-- The first argument, transposed before the kernel. -/
theorem V_v0 (c : Dev nD) (b : Fin 4) (n : Fin 4096) (k : Fin 3) :
    V m c main_v0 (ix3 b n k) = m ((c : Thread nD τ).loc main_arg0) (ix3 b k n) := by
  unfold V V0
  after_reads_at

/-- The second, transposed before the kernel. -/
theorem V_v1 (c : Dev nD) (b : Fin 4) (n : Fin 4096) (k : Fin 64) :
    V m c main_v1 (ix3 b n k) = m ((c : Thread nD τ).loc main_arg1) (ix3 b k n) := by
  unfold V V0
  after_reads_at

/-- The first bias, as a row. -/
theorem V_v2 (c : Dev nD) (o : Fin 64) :
    V m c main_v2 (ix2 0 o) = m ((c : Thread nD τ).loc main_arg3) (ix1 o) := by
  unfold V V0
  after_reads_at

/-- The second bias, as a row. -/
theorem V_v3 (c : Dev nD) (o : Fin 64) :
    V m c main_v3 (ix2 0 o) = m ((c : Thread nD τ).loc main_arg5) (ix1 o) := by
  unfold V V0
  after_reads_at

/-- The batch of a grid point. -/
def bat (t : Fin cfg0.N) : Fin 4 := ⟨(grid0.coords t 0).val, (grid0.coords t 0).isLt⟩

/-- The row of the whole array that row `r` of a grid point's block is. -/
def row (t : Fin cfg0.N) (r : Fin 2048) : Fin 4096 :=
  ⟨(grid0.coords t 1).val * 2048 + r.val, by have := (grid0.coords t 1).isLt; have : (grid0.coords t 1).val < 2 := this; omega⟩

/-- The block of the points the output rows belong to. -/
theorem blk0 (c : Dev nD) (t : Fin cfg0.N) (r : Fin 2048) (k : Fin 3) :
    iblk m c 0 t (ix3 0 r k) = m ((c : Thread nD τ).loc main_arg0) (ix3 (bat t) k (row t r)) := by
  rw [← V_v0 m c]
  unfold bat row
  blk_ext [iblk, idx t]

/-- The block of all the points of the batch. -/
theorem blk1 (c : Dev nD) (t : Fin cfg0.N) (n : Fin 4096) (k : Fin 3) :
    iblk m c 1 t (ix3 0 k n) = m ((c : Thread nD τ).loc main_arg0) (ix3 (bat t) k n) := by
  rw [← V_main_arg0 m c]
  unfold bat
  blk_ext [iblk, idx t]

/-- The block of all the features of the batch. -/
theorem blk2 (c : Dev nD) (t : Fin cfg0.N) (n : Fin 4096) (k : Fin 64) :
    iblk m c 2 t (ix3 0 n k) = m ((c : Thread nD τ).loc main_arg1) (ix3 (bat t) k n) := by
  rw [← V_v1 m c]
  unfold bat
  blk_ext [iblk, idx t]

/-- The first weight. -/
theorem blk3 (c : Dev nD) (t : Fin cfg0.N) (o k : Fin 64) :
    iblk m c 3 t (ix2 o k) = m ((c : Thread nD τ).loc main_arg2) (ix2 o k) := by
  rw [← V_main_arg2 m c]
  blk_ext [iblk, idx t]

/-- The second weight. -/
theorem blk4 (c : Dev nD) (t : Fin cfg0.N) (o k : Fin 64) :
    iblk m c 4 t (ix2 o k) = m ((c : Thread nD τ).loc main_arg4) (ix2 o k) := by
  rw [← V_main_arg4 m c]
  blk_ext [iblk, idx t]

/-- The first bias. -/
theorem blk5 (c : Dev nD) (t : Fin cfg0.N) (o : Fin 64) :
    iblk m c 5 t (ix2 0 o) = m ((c : Thread nD τ).loc main_arg3) (ix1 o) := by
  rw [← V_v2 m c]
  blk_ext [iblk, idx t]

/-- The second bias. -/
theorem blk6 (c : Dev nD) (t : Fin cfg0.N) (o : Fin 64) :
    iblk m c 6 t (ix2 0 o) = m ((c : Thread nD τ).loc main_arg5) (ix1 o) := by
  rw [← V_v3 m c]
  blk_ext [iblk, idx t]

/-- The rows of the features that the output rows add to the second product, cut out of the block of all of them. -/
theorem rows2 (c : Dev nD) (t : Fin cfg0.N) (r : Fin 2048) (k : Fin 64) :
    VecWindow.window (iblk m c 2 t) (k0_off38 (grid0.coords t)) S1x2048x64.size (k0_off38_inb (grid0.coords t)) (ix3 0 r k)
      = m ((c : Thread nD τ).loc main_arg1) (ix3 (bat t) k (row t r)) := by
  rw [← blk2 m c t]
  unfold VecWindow.window row
  blk_ext [idx t]

/-- The entry of the result, from the arguments. -/
def entry (c : Dev nD) (b : Fin 4) (o : Fin 64) (n : Fin 4096) : EReal :=
  Cert.Entry.kernel (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b o n

/-- The features of the whole batch, the block's leading axis dropped. -/
theorem feat2 (x : FVec Ideal S1x4096x64 .f32) (n : Fin 4096) (k : Fin 64) :
    shapeCast S4096x64 x shapeCasts_S1x4096x64_S4096x64 (ix2 n k) = x (ix3 0 n k) := by
  pointwise

/-- The distances of the block are those of the arguments. -/
theorem dist_blk (c : Dev nD) (t : Fin cfg0.N) (r : Fin 2048) (n : Fin 4096) :
    Body.dist (F := Ideal) (iblk m c 0 t) (iblk m c 1 t) (ix2 r n)
      = Cert.Rows.sq (m ((c : Thread nD τ).loc main_arg0)) (bat t) (row t r) n := by
  rw [Body.dist_apply]
  simp only [blk0, blk1]
  rfl

/-- The block a grid point writes, entry by entry. -/
theorem outAt_apply (c : Dev nD) (t : Fin cfg0.N) (r : Fin 2048) (o : Fin 64) :
    outAt m c t (ix3 0 r o) = entry m c (bat t) o (row t r) := by
  unfold outAt Body.out
  rw [Body.blockOut_apply]
  have hw := rows2 m c t r
  generalize VecWindow.window (iblk m c 2 t) (k0_off38 (grid0.coords t)) S1x2048x64.size (k0_off38_inb (grid0.coords t)) = w at hw ⊢
  simp only [hw, blk3, blk4, blk5, blk6, feat2, blk2, Body.within_apply, Body.thr_apply, dist_blk]
  unfold entry Cert.Entry.kernel
  rfl

/-- The array the kernel fills. -/
theorem arr (c : Dev nD) : (dats m 0 c).arrAt 7 cfg0.N
    = fun j : S4x4096x64.Idx => entry m c (j 0) (j 2) (j 1) := by
  refine (dats m 0 c).arrAt_eq_of_covers 7 _ (by decide +kernel) fun t hf y => ?_
  blk_simp
  rw [after0_7]
  have hy : y = ix3 (0 : Fin 1) (y 1 : Fin 2048) (y 2 : Fin 64) := by
    blk_ext
  have h0 : (win0_7.blk t).view.emb y 0 = bat t := by
    unfold bat
    apply Fin.ext
    blk_simp [idx t]
  have h1 : (win0_7.blk t).view.emb y 1 = row t (y 1) := by
    unfold row
    apply Fin.ext
    blk_simp [idx t]
  have h2 : (win0_7.blk t).view.emb y 2 = (y 2 : Fin 64) := by
    apply Fin.ext
    blk_simp [idx t]
  rw [h0, h1, h2]
  exact (congrArg _ hy).trans (outAt_apply m c t (y 1) (y 2))

/-- The result: the transpose of that array. -/
theorem result (c : Dev nD) : Pipeline.afterTail₀ cfgs (dats m) 0 (V0 m) [hostOps1] c main_v5
    = fun j : S4x64x4096.Idx => entry m c (j 0) (j 1) (j 2) := by
  unfold Pipeline.afterTail₀
  have h4 : Pipeline.withArrays (cfgs 0).spec c (V0 m c) (fun w => (dats m 0 c).arrAt w (cfgs 0).N) (Proc.devRef .tc main_v4)
      = fun j : S4x4096x64.Idx => entry m c (j 0) (j 2) (j 1) :=
    (Pipeline.withArrays_arr spec0 (by decide) c (V0 m c) (fun w => (dats m 0 c).arrAt w (cfgs 0).N) 7).trans (arr m c)
  generalize Pipeline.withArrays (cfgs 0).spec c (V0 m c) (fun w => (dats m 0 c).arrAt w (cfgs 0).N) = W at h4 ⊢
  funext j
  show StableHlo.after hostOps1 W (Proc.devRef .tc main_v5) j = _
  idx_vars j
  after_reads_at
  exact congrFun h4 _

/-- Every run of the kernel ends with the result at those entries and the arguments unchanged. -/
theorem value : θ_run defs (onTc (τ := τ) (main (F := Ideal))) ⟨m, fun _ => 0, ρ⟩ (fun r => ∀ c : Dev nD,
      r.2.mem ((c.tc : Thread nD τ).loc main_v5) = (fun j : S4x64x4096.Idx => entry m c (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨((h.1 c).2 main_v5 (Pipeline.mem_restRefs_of main_v5 (by decide) (by decide))).trans (result m c), h.2.1 c⟩)
    (θ_run_and (run_main m ρ) (frame m ρ))

end Cert.KernelIdeal.Run

end
-- ==== Proof.Pre.lean ====
/- What the precondition says: the points, the features and the second weight are real, and the 22 smallest distances of
   every point are distinct. -/
module

public import proofs.«01_k».proof.Defs
public import proofs.«01_k».proof.Proof.RVal
public import Idealize.ShloMosaic.Lib.Pointwise
public import Idealize.ShloMosaic.Lib.ReduceAll

@[expose] public section

set_option maxRecDepth 16384
set_option synthInstance.maxSize 4096

noncomputable section

namespace Cert.Pre_separated

open Idealize.ShloMosaic Cert.Rows Cert.Select
open Facts

variable [Facts]

/-- A number of finite magnitude is real. -/
theorem real_of_abs_lt {x : EReal} (h : max x (-x) < ⊤) : ∃ r : ℝ, x = (r : EReal) := by
  induction x with
  | bot => simp at h
  | coe r => exact ⟨r, rfl⟩
  | top => simp at h

/-- The result of the predicate has one index. -/
instance one_index : Subsingleton S_.Idx := ⟨fun a b => funext fun x => x.elim0⟩

/-- The negated squared distances, as the predicate computes them. -/
def negd (X : FVec Ideal S4x3x4096 .f32) : FVec Ideal S4x4096x4096 .f32 :=
  have t : FVec Ideal S4x4096x3 .f32 := transpose S4x4096x3 [0, 2, 1] X transposes_S4x3x4096_S4x4096x3_0_2_1
  have s : FVec Ideal S4x4096 .f32 := Host.reduceAdd (mulf t t) (constant S_ .f32 0x00000000#32) reducesTo_S4x4096x3_S4x4096_d2 h_S_
  Host.negf (subf
    (addf
      (broadcastInDim S4x4096x4096 ![0, 1, 2] bcast_S4x4096x1_S4x4096x4096_0_1_2 (broadcastInDim S4x4096x1 ![0, 1] bcast_S4x4096_S4x4096x1_0_1 s))
      (broadcastInDim S4x4096x4096 ![0, 1, 2] bcast_S4x1x4096_S4x4096x4096_0_1_2 (broadcastInDim S4x1x4096 ![0, 2] bcast_S4x4096_S4x1x4096_0_2 s)))
    (mulf (broadcastInDim S4x4096x4096 ![] bcast_S_S4x4096x4096 (constant S_ .f32 0x40000000#32))
      (Host.dotGeneral dot_S4x4096x3_S4x4096x3_S4x4096x4096_2_2_1_1_0_0 none t t)))

/-- They are the negated squared distances. -/
theorem negd_apply (X : FVec Ideal S4x3x4096 .f32) (b : Fin 4) (n m : Fin 4096) :
    negd X (ix3 b n m) = - Cert.Rows.sq X b n m := by
  pointwise [negd, Cert.Rows.sq]
  rw [Cert.Consts.two]

/-- The greatest 22 of each row, in order. -/
def top (X : FVec Ideal S4x3x4096 .f32) : FVec Ideal S4x4096x22 .f32 :=
  (Host.topK S4x4096x22 2 (FloatOps.cmpfTotal .gt) (negd X) sliceFits_S4x4096x4096_S4x4096x22).1

/-- What the predicate's four tests say. -/
structure Says (X : FVec Ideal S4x3x4096 .f32) (P : FVec Ideal S4x64x4096 .f32) (W2 : FVec Ideal S64x64 .f32) : Prop where
  points : ∀ j, ∃ r : ℝ, X j = (r : EReal)
  features : ∀ j, ∃ r : ℝ, P j = (r : EReal)
  weight : ∀ j, ∃ r : ℝ, W2 j = (r : EReal)
  falls : ∀ (b : Fin 4) (n : Fin 4096) (k : Fin 21),
    top X (ix3 b n ⟨k.val + 1, by omega⟩) < top X (ix3 b n ⟨k.val, by omega⟩)

/-- A test that came out one holds. -/
theorem holds_of {p : Prop} [Decidable p] (h : BitVec.ofBool (decide p) = 1#1) : p := by
  by_contra hp
  rw [decide_eq_false hp] at h
  exact absurd h (by decide)

/-- One test of finite magnitude. -/
theorem finite_of {x : EReal} (h : BitVec.ofBool (decide (max x (-x) < Ideal.ofBits .f32 0x7F800000#32)) = 1#1) :
    ∃ r : ℝ, x = (r : EReal) := by
  have h' := holds_of h
  rw [Cert.Consts.inf] at h'
  exact real_of_abs_lt h'

/-- The predicate, read. -/
theorem read (X : FVec Ideal S4x3x4096 .f32) (P : FVec Ideal S4x64x4096 .f32) (W1 : FVec Ideal S64x64 .f32) (b1 : FVec Ideal S64 .f32)
    (W2 : FVec Ideal S64x64 .f32) (b2 : FVec Ideal S64 .f32) (h : fn X P W1 b1 W2 b2 = fun _ => 1#1) : Says X P W2 := by
  have h1 := congrFun h (fun a => a.elim0)
  dsimp only [fn, fn_part1] at h1
  simp only [andi, IntOp.andi_eq_one] at h1
  obtain ⟨⟨⟨hd, hX⟩, hP⟩, hW⟩ := h1
  refine ⟨fun j => finite_of (Host.reduce_andi_all _ _ _ _ _ hX j), fun j => finite_of (Host.reduce_andi_all _ _ _ _ _ hP j),
    fun j => finite_of (Host.reduce_andi_all _ _ _ _ _ hW j), fun b n k => ?_⟩
  have hd' : Host.reduce IntOp.andi
      (cmpf .olt (extractStridedSlice S4x4096x21 ![0, 0, 1] (top X) slices_S4x4096x22_S4x4096x21_0_0_1)
        (extractStridedSlice S4x4096x21 ![0, 0, 0] (top X) slices_S4x4096x22_S4x4096x21_0_0_0))
      (constantI S_ 1 1#1) reducesTo_S4x4096x21_S_d0_1_2 h_S_ (fun a => a.elim0) = 1#1 := hd
  generalize top X = T at hd' ⊢
  have hk := Host.reduce_andi_all _ _ _ _ _ hd' (ix3 b n k)
  pointwise at hk
  simpa only [Nat.add_comm 1 k.val] using holds_of hk

/-- So every row's distances, listed in ascending order, are distinct up to the 22nd. -/
theorem Says.strict {X : FVec Ideal S4x3x4096 .f32} {P : FVec Ideal S4x64x4096 .f32} {W2 : FVec Ideal S64x64 .f32} (h : Says X P W2)
    (x : FVec Ideal ⟨3, ![4, 4096, 4096]⟩ .f32) (hx : ∀ b n m, x (ix3 b n m) = - Cert.Rows.sq X b n m) (b : Fin 4) (n : Fin 4096) :
    Strict (Cert.Rows.sq X b n) (order x b n) 20 := by
  have e : negd X = x := by
    funext j
    idx_vars j
    rw [negd_apply, hx]
  intro k hk hk'
  have := h.falls b n ⟨k, by omega⟩
  unfold top at this
  rw [e] at this
  rw [(topK_at x _ b n ⟨k + 1, by omega⟩ (by simp; omega)).1, (topK_at x _ b n ⟨k, by omega⟩ (by simp; omega)).1, hx, hx] at this
  exact EReal.neg_lt_neg_iff.mp this

end Cert.Pre_separated

end
-- ==== Proof.Value.lean ====
/- The value claim: where the precondition holds the kernel's result is the reference's. -/
module

public import proofs.«01_k».proof.Proof.Frames
public import proofs.«01_k».proof.Proof.KArr
public import proofs.«01_k».proof.Proof.Pre
public import proofs.«01_k».proof.Proof.Gen.Pre_separated

@[expose] public section

set_option maxRecDepth 16384

noncomputable section

namespace Cert.ReferenceIdeal.Value

open Cert.ReferenceIdeal Cert.ReferenceIdeal.Gen Idealize.ShloMosaic Idealize.ShloMosaic.TcCoe

/-- The reference's result, entry by entry. -/
theorem res_apply (m : (ℓ : Loc nD τ sig) → Buf (Elt Ideal) ℓ) (c : Dev nD) (b : Fin 4) (o : Fin 64) (n : Fin 4096) :
    res_main_v40 m c (ix3 b o n)
      = Cert.Entry.reference (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) b o n
          (Cert.Rows.order (negd (m ((c.tc : Thread nD τ).loc main_arg0))) b n) := by
  rw [res_eq, result_apply]
  simp only [fun (f : FVec Ideal S4x4096x64 .f32) k c' => taken_apply f (nbrs (negd (m ((c.tc : Thread nD τ).loc main_arg0)))) b n k c' _
    (nbrs_apply _ b n k), feats_apply]
  rfl

end Cert.ReferenceIdeal.Value

namespace Cert.Proof

open Idealize.ShloMosaic Idealize.SL.Sem

/-- The frame of the idealized kernel needs no precondition, so it holds under one. -/
theorem frame_ideal_pre : Cert.quiescent_KernelIdeal_pre_separated := fun m g _ =>
  Cert.KernelIdeal.Run.frame (F := Ideal) m g

/-- Nor does the reference's. -/
theorem frame_reference_pre : Cert.quiescent_ReferenceIdeal_pre_separated := fun m g _ =>
  frame_reference m g trivial

/-- The value claim. -/
theorem algebraic : Cert.algebraic_KernelIdeal_ReferenceIdeal_pre_separated := by
  intro m g m' g' hpre hagree
  refine ⟨_, Cert.KernelIdeal.Run.value m g, ?_⟩
  refine (θ_run Cert.ReferenceIdeal.defs _ _).mono (fun _ h c => ⟨(h c).1.trans ?_, (h c).2⟩)
    (Cert.ReferenceIdeal.Value.run (F := Ideal) m' g')
  have hs := Cert.Pre_separated.read _ _ _ _ _ _ (hpre c)
  obtain ⟨e0, e1, e2, e3, e4, e5⟩ := hagree c
  funext j
  idx_vars j
  rw [Cert.ReferenceIdeal.Value.res_apply, e0, e1, e2, e3, e4, e5]
  exact (Cert.Entry.agree _ _ _ _ _ _ _ _ _ hs.points hs.features hs.weight _
    (Cert.Rows.order_sorted _ _ _ _ fun i => Cert.ReferenceIdeal.Value.negd_apply _ _ _ i)
    (hs.strict _ (Cert.ReferenceIdeal.Value.negd_apply _) _ _)).symm

end Cert.Proof

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_separated
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_separated.Gen.facts, frame_kernel, frame_ideal, frame_ideal_pre, frame_reference, frame_reference_pre, preserves, algebraic⟩

end Cert.Proof

end
